-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![32768, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1x512 : Shape := ⟨2, ![1, 512]⟩
abbrev S32x1x512 : Shape := ⟨3, ![32, 1, 512]⟩
abbrev S32 : Shape := ⟨1, ![32]⟩
abbrev S_ : Shape := ⟨0, ![]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S4x512 : Shape := ⟨2, ![4, 512]⟩
abbrev S2x512 : Shape := ⟨2, ![2, 512]⟩
abbrev S1023x512 : Shape := ⟨2, ![1023, 512]⟩
abbrev S1022x512 : Shape := ⟨2, ![1022, 512]⟩
abbrev S1020x512 : Shape := ⟨2, ![1020, 512]⟩
abbrev S1016x512 : Shape := ⟨2, ![1016, 512]⟩
abbrev S1008x512 : Shape := ⟨2, ![1008, 512]⟩
abbrev S992x512 : Shape := ⟨2, ![992, 512]⟩
abbrev S960x512 : Shape := ⟨2, ![960, 512]⟩
abbrev S896x512 : Shape := ⟨2, ![896, 512]⟩
abbrev S768x512 : Shape := ⟨2, ![768, 512]⟩
abbrev S1 : Shape := ⟨1, ![1]⟩
abbrev S1x1x512 : Shape := ⟨3, ![1, 1, 512]⟩

abbrev nBuf : Space → Nat
  | .hbm => 2
  | .vmem => 5
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1x512, .f32⟩
  | .local _ .vmem, ⟨4, _⟩ => ⟨S32x1x512, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.subi v2 c1_i32_0
  let c32_i32_1 : BitVec 32 := 32#32
  let v5 : BitVec 32 := Scalar.addi v4 c32_i32_1
  let c32_i32_2 : BitVec 32 := 32#32
  let v6 : BitVec 32 := Scalar.remsi v5 c32_i32_2
  let c1_i32_4 : BitVec 32 := 1#32
  let v7 : BitVec 32 := Scalar.muli v6 c1_i32_4
  let v8 : BitVec 32 := Scalar.addi c0_i32 v7
  v8.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v9 : BitVec 32 := Scalar.subi v2 c2_i32
  let c32_i32_5 : BitVec 32 := 32#32
  let v10 : BitVec 32 := Scalar.addi v9 c32_i32_5
  let c32_i32_6 : BitVec 32 := 32#32
  let v11 : BitVec 32 := Scalar.remsi v10 c32_i32_6
  let c1_i32_8 : BitVec 32 := 1#32
  let v12 : BitVec 32 := Scalar.muli v11 c1_i32_8
  let v13 : BitVec 32 := Scalar.addi c0_i32_9 v12
  v13.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v14 : BitVec 32 := Scalar.subi v2 c3_i32
  let c32_i32_10 : BitVec 32 := 32#32
  let v15 : BitVec 32 := Scalar.addi v14 c32_i32_10
  let c32_i32_11 : BitVec 32 := 32#32
  let v16 : BitVec 32 := Scalar.remsi v15 c32_i32_11
  let c1_i32_13 : BitVec 32 := 1#32
  let v17 : BitVec 32 := Scalar.muli v16 c1_i32_13
  let v18 : BitVec 32 := Scalar.addi c0_i32_14 v17
  v18.toNat
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v19 : BitVec 32 := Scalar.subi v2 c4_i32
  let c32_i32_15 : BitVec 32 := 32#32
  let v20 : BitVec 32 := Scalar.addi v19 c32_i32_15
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v24 : BitVec 32 := Scalar.subi v2 c5_i32
  let c32_i32_20 : BitVec 32 := 32#32
  let v25 : BitVec 32 := Scalar.addi v24 c32_i32_20
  let c32_i32_21 : BitVec 32 := 32#32
  let v26 : BitVec 32 := Scalar.remsi v25 c32_i32_21
  let c1_i32_23 : BitVec 32 := 1#32
  let v27 : BitVec 32 := Scalar.muli v26 c1_i32_23
  let v28 : BitVec 32 := Scalar.addi c0_i32_24 v27
  v28.toNat
def k0_dev6 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v29 : BitVec 32 := Scalar.subi v2 c6_i32
  let c32_i32_25 : BitVec 32 := 32#32
  let v30 : BitVec 32 := Scalar.addi v29 c32_i32_25
  let c32_i32_26 : BitVec 32 := 32#32
  let v31 : BitVec 32 := Scalar.remsi v30 c32_i32_26
  let c1_i32_28 : BitVec 32 := 1#32
  let v32 : BitVec 32 := Scalar.muli v31 c1_i32_28
  let v33 : BitVec 32 := Scalar.addi c0_i32_29 v32
  v33.toNat
def k0_dev7 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v34 : BitVec 32 := Scalar.subi v2 c7_i32
  let c32_i32_30 : BitVec 32 := 32#32
  let v35 : BitVec 32 := Scalar.addi v34 c32_i32_30
  let c32_i32_31 : BitVec 32 := 32#32
  let v36 : BitVec 32 := Scalar.remsi v35 c32_i32_31
  let c1_i32_33 : BitVec 32 := 1#32
  let v37 : BitVec 32 := Scalar.muli v36 c1_i32_33
  let v38 : BitVec 32 := Scalar.addi c0_i32_34 v37
  v38.toNat
def k0_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v39 : BitVec 32 := Scalar.subi v2 c8_i32
  let c32_i32_35 : BitVec 32 := 32#32
  let v40 : BitVec 32 := Scalar.addi v39 c32_i32_35
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev9 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v44 : BitVec 32 := Scalar.subi v2 c9_i32
  let c32_i32_40 : BitVec 32 := 32#32
  let v45 : BitVec 32 := Scalar.addi v44 c32_i32_40
  let c32_i32_41 : BitVec 32 := 32#32
  let v46 : BitVec 32 := Scalar.remsi v45 c32_i32_41
  let c1_i32_43 : BitVec 32 := 1#32
  let v47 : BitVec 32 := Scalar.muli v46 c1_i32_43
  let v48 : BitVec 32 := Scalar.addi c0_i32_44 v47
  v48.toNat
def k0_dev10 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v49 : BitVec 32 := Scalar.subi v2 c10_i32
  let c32_i32_45 : BitVec 32 := 32#32
  let v50 : BitVec 32 := Scalar.addi v49 c32_i32_45
  let c32_i32_46 : BitVec 32 := 32#32
  let v51 : BitVec 32 := Scalar.remsi v50 c32_i32_46
  let c1_i32_48 : BitVec 32 := 1#32
  let v52 : BitVec 32 := Scalar.muli v51 c1_i32_48
  let v53 : BitVec 32 := Scalar.addi c0_i32_49 v52
  v53.toNat
def k0_dev11 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v54 : BitVec 32 := Scalar.subi v2 c11_i32
  let c32_i32_50 : BitVec 32 := 32#32
  let v55 : BitVec 32 := Scalar.addi v54 c32_i32_50
  let c32_i32_51 : BitVec 32 := 32#32
  let v56 : BitVec 32 := Scalar.remsi v55 c32_i32_51
  let c1_i32_53 : BitVec 32 := 1#32
  let v57 : BitVec 32 := Scalar.muli v56 c1_i32_53
  let v58 : BitVec 32 := Scalar.addi c0_i32_54 v57
  v58.toNat
def k0_dev12 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v59 : BitVec 32 := Scalar.subi v2 c12_i32
  let c32_i32_55 : BitVec 32 := 32#32
  let v60 : BitVec 32 := Scalar.addi v59 c32_i32_55
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev13 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v64 : BitVec 32 := Scalar.subi v2 c13_i32
  let c32_i32_60 : BitVec 32 := 32#32
  let v65 : BitVec 32 := Scalar.addi v64 c32_i32_60
  let c32_i32_61 : BitVec 32 := 32#32
  let v66 : BitVec 32 := Scalar.remsi v65 c32_i32_61
  let c1_i32_63 : BitVec 32 := 1#32
  let v67 : BitVec 32 := Scalar.muli v66 c1_i32_63
  let v68 : BitVec 32 := Scalar.addi c0_i32_64 v67
  v68.toNat
def k0_dev14 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v69 : BitVec 32 := Scalar.subi v2 c14_i32
  let c32_i32_65 : BitVec 32 := 32#32
  let v70 : BitVec 32 := Scalar.addi v69 c32_i32_65
  let c32_i32_66 : BitVec 32 := 32#32
  let v71 : BitVec 32 := Scalar.remsi v70 c32_i32_66
  let c1_i32_68 : BitVec 32 := 1#32
  let v72 : BitVec 32 := Scalar.muli v71 c1_i32_68
  let v73 : BitVec 32 := Scalar.addi c0_i32_69 v72
  v73.toNat
def k0_dev15 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v74 : BitVec 32 := Scalar.subi v2 c15_i32
  let c32_i32_70 : BitVec 32 := 32#32
  let v75 : BitVec 32 := Scalar.addi v74 c32_i32_70
  let c32_i32_71 : BitVec 32 := 32#32
  let v76 : BitVec 32 := Scalar.remsi v75 c32_i32_71
  let c1_i32_73 : BitVec 32 := 1#32
  let v77 : BitVec 32 := Scalar.muli v76 c1_i32_73
  let v78 : BitVec 32 := Scalar.addi c0_i32_74 v77
  v78.toNat
def k0_dev16 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v79 : BitVec 32 := Scalar.subi v2 c16_i32
  let c32_i32_75 : BitVec 32 := 32#32
  let v80 : BitVec 32 := Scalar.addi v79 c32_i32_75
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev17 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v84 : BitVec 32 := Scalar.subi v2 c17_i32
  let c32_i32_80 : BitVec 32 := 32#32
  let v85 : BitVec 32 := Scalar.addi v84 c32_i32_80
  let c32_i32_81 : BitVec 32 := 32#32
  let v86 : BitVec 32 := Scalar.remsi v85 c32_i32_81
  let c1_i32_83 : BitVec 32 := 1#32
  let v87 : BitVec 32 := Scalar.muli v86 c1_i32_83
  let v88 : BitVec 32 := Scalar.addi c0_i32_84 v87
  v88.toNat
def k0_dev18 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v89 : BitVec 32 := Scalar.subi v2 c18_i32
  let c32_i32_85 : BitVec 32 := 32#32
  let v90 : BitVec 32 := Scalar.addi v89 c32_i32_85
  let c32_i32_86 : BitVec 32 := 32#32
  let v91 : BitVec 32 := Scalar.remsi v90 c32_i32_86
  let c1_i32_88 : BitVec 32 := 1#32
  let v92 : BitVec 32 := Scalar.muli v91 c1_i32_88
  let v93 : BitVec 32 := Scalar.addi c0_i32_89 v92
  v93.toNat
def k0_dev19 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v94 : BitVec 32 := Scalar.subi v2 c19_i32
  let c32_i32_90 : BitVec 32 := 32#32
  let v95 : BitVec 32 := Scalar.addi v94 c32_i32_90
  let c32_i32_91 : BitVec 32 := 32#32
  let v96 : BitVec 32 := Scalar.remsi v95 c32_i32_91
  let c1_i32_93 : BitVec 32 := 1#32
  let v97 : BitVec 32 := Scalar.muli v96 c1_i32_93
  let v98 : BitVec 32 := Scalar.addi c0_i32_94 v97
  v98.toNat
def k0_dev20 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v99 : BitVec 32 := Scalar.subi v2 c20_i32
  let c32_i32_95 : BitVec 32 := 32#32
  let v100 : BitVec 32 := Scalar.addi v99 c32_i32_95
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev21 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v104 : BitVec 32 := Scalar.subi v2 c21_i32
  let c32_i32_100 : BitVec 32 := 32#32
  let v105 : BitVec 32 := Scalar.addi v104 c32_i32_100
  let c32_i32_101 : BitVec 32 := 32#32
  let v106 : BitVec 32 := Scalar.remsi v105 c32_i32_101
  let c1_i32_103 : BitVec 32 := 1#32
  let v107 : BitVec 32 := Scalar.muli v106 c1_i32_103
  let v108 : BitVec 32 := Scalar.addi c0_i32_104 v107
  v108.toNat
def k0_dev22 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v109 : BitVec 32 := Scalar.subi v2 c22_i32
  let c32_i32_105 : BitVec 32 := 32#32
  let v110 : BitVec 32 := Scalar.addi v109 c32_i32_105
  let c32_i32_106 : BitVec 32 := 32#32
  let v111 : BitVec 32 := Scalar.remsi v110 c32_i32_106
  let c1_i32_108 : BitVec 32 := 1#32
  let v112 : BitVec 32 := Scalar.muli v111 c1_i32_108
  let v113 : BitVec 32 := Scalar.addi c0_i32_109 v112
  v113.toNat
def k0_dev23 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v114 : BitVec 32 := Scalar.subi v2 c23_i32
  let c32_i32_110 : BitVec 32 := 32#32
  let v115 : BitVec 32 := Scalar.addi v114 c32_i32_110
  let c32_i32_111 : BitVec 32 := 32#32
  let v116 : BitVec 32 := Scalar.remsi v115 c32_i32_111
  let c1_i32_113 : BitVec 32 := 1#32
  let v117 : BitVec 32 := Scalar.muli v116 c1_i32_113
  let v118 : BitVec 32 := Scalar.addi c0_i32_114 v117
  v118.toNat
def k0_dev24 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v119 : BitVec 32 := Scalar.subi v2 c24_i32
  let c32_i32_115 : BitVec 32 := 32#32
  let v120 : BitVec 32 := Scalar.addi v119 c32_i32_115
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev25 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v124 : BitVec 32 := Scalar.subi v2 c25_i32
  let c32_i32_120 : BitVec 32 := 32#32
  let v125 : BitVec 32 := Scalar.addi v124 c32_i32_120
  let c32_i32_121 : BitVec 32 := 32#32
  let v126 : BitVec 32 := Scalar.remsi v125 c32_i32_121
  let c1_i32_123 : BitVec 32 := 1#32
  let v127 : BitVec 32 := Scalar.muli v126 c1_i32_123
  let v128 : BitVec 32 := Scalar.addi c0_i32_124 v127
  v128.toNat
def k0_dev26 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v129 : BitVec 32 := Scalar.subi v2 c26_i32
  let c32_i32_125 : BitVec 32 := 32#32
  let v130 : BitVec 32 := Scalar.addi v129 c32_i32_125
  let c32_i32_126 : BitVec 32 := 32#32
  let v131 : BitVec 32 := Scalar.remsi v130 c32_i32_126
  let c1_i32_128 : BitVec 32 := 1#32
  let v132 : BitVec 32 := Scalar.muli v131 c1_i32_128
  let v133 : BitVec 32 := Scalar.addi c0_i32_129 v132
  v133.toNat
def k0_dev27 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v134 : BitVec 32 := Scalar.subi v2 c27_i32
  let c32_i32_130 : BitVec 32 := 32#32
  let v135 : BitVec 32 := Scalar.addi v134 c32_i32_130
  let c32_i32_131 : BitVec 32 := 32#32
  let v136 : BitVec 32 := Scalar.remsi v135 c32_i32_131
  let c1_i32_133 : BitVec 32 := 1#32
  let v137 : BitVec 32 := Scalar.muli v136 c1_i32_133
  let v138 : BitVec 32 := Scalar.addi c0_i32_134 v137
  v138.toNat
def k0_dev28 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v139 : BitVec 32 := Scalar.subi v2 c28_i32
  let c32_i32_135 : BitVec 32 := 32#32
  let v140 : BitVec 32 := Scalar.addi v139 c32_i32_135
  let c32_i32_136 : BitVec 32 := 32#32
  let v141 : BitVec 32 := Scalar.remsi v140 c32_i32_136
  let c1_i32_138 : BitVec 32 := 1#32
  let v142 : BitVec 32 := Scalar.muli v141 c1_i32_138
  let v143 : BitVec 32 := Scalar.addi c0_i32_139 v142
  v143.toNat
def k0_dev29 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v144 : BitVec 32 := Scalar.subi v2 c29_i32
  let c32_i32_140 : BitVec 32 := 32#32
  let v145 : BitVec 32 := Scalar.addi v144 c32_i32_140
  let c32_i32_141 : BitVec 32 := 32#32
  let v146 : BitVec 32 := Scalar.remsi v145 c32_i32_141
  let c1_i32_143 : BitVec 32 := 1#32
  let v147 : BitVec 32 := Scalar.muli v146 c1_i32_143
  let v148 : BitVec 32 := Scalar.addi c0_i32_144 v147
  v148.toNat
def k0_dev30 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v149 : BitVec 32 := Scalar.subi v2 c30_i32
  let c32_i32_145 : BitVec 32 := 32#32
  let v150 : BitVec 32 := Scalar.addi v149 c32_i32_145
  let c32_i32_146 : BitVec 32 := 32#32
  let v151 : BitVec 32 := Scalar.remsi v150 c32_i32_146
  let c1_i32_148 : BitVec 32 := 1#32
  let v152 : BitVec 32 := Scalar.muli v151 c1_i32_148
  let v153 : BitVec 32 := Scalar.addi c0_i32_149 v152
  v153.toNat
def k0_dev31 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v154 : BitVec 32 := Scalar.subi v2 c31_i32
  let c32_i32_150 : BitVec 32 := 32#32
  let v155 : BitVec 32 := Scalar.addi v154 c32_i32_150
  let c32_i32_151 : BitVec 32 := 32#32
  let v156 : BitVec 32 := Scalar.remsi v155 c32_i32_151
  let c1_i32_153 : BitVec 32 := 1#32
  let v157 : BitVec 32 := Scalar.muli v156 c1_i32_153
  let v158 : BitVec 32 := Scalar.addi c0_i32_154 v157
  v158.toNat
def k0_dev32 (d0 : Dev nD) : Nat :=
  let c0_i32_217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_211 : BitVec 32 := 1#32
  let v258 : BitVec 32 := Scalar.addi v2 c1_i32_211
  let c32_i32_212 : BitVec 32 := 32#32
  let v259 : BitVec 32 := Scalar.remsi v258 c32_i32_212
  let c1_i32_216 : BitVec 32 := 1#32
  let v260 : BitVec 32 := Scalar.muli v259 c1_i32_216
  let v261 : BitVec 32 := Scalar.addi c0_i32_217 v260
  v261.toNat
def k0_dev33 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_220 : BitVec 32 := 2#32
  let v268 : BitVec 32 := Scalar.addi v2 c2_i32_220
  let c32_i32_221 : BitVec 32 := 32#32
  let v269 : BitVec 32 := Scalar.remsi v268 c32_i32_221
  let c1_i32_225 : BitVec 32 := 1#32
  let v270 : BitVec 32 := Scalar.muli v269 c1_i32_225
  let v271 : BitVec 32 := Scalar.addi c0_i32_226 v270
  v271.toNat
def k0_dev34 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_229 : BitVec 32 := 3#32
  let v278 : BitVec 32 := Scalar.addi v2 c3_i32_229
  let c32_i32_230 : BitVec 32 := 32#32
  let v279 : BitVec 32 := Scalar.remsi v278 c32_i32_230
  let c1_i32_234 : BitVec 32 := 1#32
  let v280 : BitVec 32 := Scalar.muli v279 c1_i32_234
  let v281 : BitVec 32 := Scalar.addi c0_i32_235 v280
  v281.toNat
def k0_dev35 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_238 : BitVec 32 := 4#32
  let v288 : BitVec 32 := Scalar.addi v2 c4_i32_238
  let c32_i32_239 : BitVec 32 := 32#32
  let v289 : BitVec 32 := Scalar.remsi v288 c32_i32_239
  let c1_i32_243 : BitVec 32 := 1#32
  let v290 : BitVec 32 := Scalar.muli v289 c1_i32_243
  let v291 : BitVec 32 := Scalar.addi c0_i32_244 v290
  v291.toNat
def k0_dev36 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_247 : BitVec 32 := 5#32
  let v298 : BitVec 32 := Scalar.addi v2 c5_i32_247
  let c32_i32_248 : BitVec 32 := 32#32
  let v299 : BitVec 32 := Scalar.remsi v298 c32_i32_248
  let c1_i32_252 : BitVec 32 := 1#32
  let v300 : BitVec 32 := Scalar.muli v299 c1_i32_252
  let v301 : BitVec 32 := Scalar.addi c0_i32_253 v300
  v301.toNat
def k0_dev37 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_256 : BitVec 32 := 6#32
  let v308 : BitVec 32 := Scalar.addi v2 c6_i32_256
  let c32_i32_257 : BitVec 32 := 32#32
  let v309 : BitVec 32 := Scalar.remsi v308 c32_i32_257
  let c1_i32_261 : BitVec 32 := 1#32
  let v310 : BitVec 32 := Scalar.muli v309 c1_i32_261
  let v311 : BitVec 32 := Scalar.addi c0_i32_262 v310
  v311.toNat
def k0_dev38 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_265 : BitVec 32 := 7#32
  let v318 : BitVec 32 := Scalar.addi v2 c7_i32_265
  let c32_i32_266 : BitVec 32 := 32#32
  let v319 : BitVec 32 := Scalar.remsi v318 c32_i32_266
  let c1_i32_270 : BitVec 32 := 1#32
  let v320 : BitVec 32 := Scalar.muli v319 c1_i32_270
  let v321 : BitVec 32 := Scalar.addi c0_i32_271 v320
  v321.toNat
def k0_dev39 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_274 : BitVec 32 := 8#32
  let v328 : BitVec 32 := Scalar.addi v2 c8_i32_274
  let c32_i32_275 : BitVec 32 := 32#32
  let v329 : BitVec 32 := Scalar.remsi v328 c32_i32_275
  let c1_i32_279 : BitVec 32 := 1#32
  let v330 : BitVec 32 := Scalar.muli v329 c1_i32_279
  let v331 : BitVec 32 := Scalar.addi c0_i32_280 v330
  v331.toNat
def k0_dev40 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_283 : BitVec 32 := 9#32
  let v338 : BitVec 32 := Scalar.addi v2 c9_i32_283
  let c32_i32_284 : BitVec 32 := 32#32
  let v339 : BitVec 32 := Scalar.remsi v338 c32_i32_284
  let c1_i32_288 : BitVec 32 := 1#32
  let v340 : BitVec 32 := Scalar.muli v339 c1_i32_288
  let v341 : BitVec 32 := Scalar.addi c0_i32_289 v340
  v341.toNat
def k0_dev41 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_292 : BitVec 32 := 10#32
  let v348 : BitVec 32 := Scalar.addi v2 c10_i32_292
  let c32_i32_293 : BitVec 32 := 32#32
  let v349 : BitVec 32 := Scalar.remsi v348 c32_i32_293
  let c1_i32_297 : BitVec 32 := 1#32
  let v350 : BitVec 32 := Scalar.muli v349 c1_i32_297
  let v351 : BitVec 32 := Scalar.addi c0_i32_298 v350
  v351.toNat
def k0_dev42 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_301 : BitVec 32 := 11#32
  let v358 : BitVec 32 := Scalar.addi v2 c11_i32_301
  let c32_i32_302 : BitVec 32 := 32#32
  let v359 : BitVec 32 := Scalar.remsi v358 c32_i32_302
  let c1_i32_306 : BitVec 32 := 1#32
  let v360 : BitVec 32 := Scalar.muli v359 c1_i32_306
  let v361 : BitVec 32 := Scalar.addi c0_i32_307 v360
  v361.toNat
def k0_dev43 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_310 : BitVec 32 := 12#32
  let v368 : BitVec 32 := Scalar.addi v2 c12_i32_310
  let c32_i32_311 : BitVec 32 := 32#32
  let v369 : BitVec 32 := Scalar.remsi v368 c32_i32_311
  let c1_i32_315 : BitVec 32 := 1#32
  let v370 : BitVec 32 := Scalar.muli v369 c1_i32_315
  let v371 : BitVec 32 := Scalar.addi c0_i32_316 v370
  v371.toNat
def k0_dev44 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_319 : BitVec 32 := 13#32
  let v378 : BitVec 32 := Scalar.addi v2 c13_i32_319
  let c32_i32_320 : BitVec 32 := 32#32
  let v379 : BitVec 32 := Scalar.remsi v378 c32_i32_320
  let c1_i32_324 : BitVec 32 := 1#32
  let v380 : BitVec 32 := Scalar.muli v379 c1_i32_324
  let v381 : BitVec 32 := Scalar.addi c0_i32_325 v380
  v381.toNat
def k0_dev45 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_328 : BitVec 32 := 14#32
  let v388 : BitVec 32 := Scalar.addi v2 c14_i32_328
  let c32_i32_329 : BitVec 32 := 32#32
  let v389 : BitVec 32 := Scalar.remsi v388 c32_i32_329
  let c1_i32_333 : BitVec 32 := 1#32
  let v390 : BitVec 32 := Scalar.muli v389 c1_i32_333
  let v391 : BitVec 32 := Scalar.addi c0_i32_334 v390
  v391.toNat
def k0_dev46 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_337 : BitVec 32 := 15#32
  let v398 : BitVec 32 := Scalar.addi v2 c15_i32_337
  let c32_i32_338 : BitVec 32 := 32#32
  let v399 : BitVec 32 := Scalar.remsi v398 c32_i32_338
  let c1_i32_342 : BitVec 32 := 1#32
  let v400 : BitVec 32 := Scalar.muli v399 c1_i32_342
  let v401 : BitVec 32 := Scalar.addi c0_i32_343 v400
  v401.toNat
def k0_dev47 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_346 : BitVec 32 := 16#32
  let v408 : BitVec 32 := Scalar.addi v2 c16_i32_346
  let c32_i32_347 : BitVec 32 := 32#32
  let v409 : BitVec 32 := Scalar.remsi v408 c32_i32_347
  let c1_i32_351 : BitVec 32 := 1#32
  let v410 : BitVec 32 := Scalar.muli v409 c1_i32_351
  let v411 : BitVec 32 := Scalar.addi c0_i32_352 v410
  v411.toNat
def k0_dev48 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_355 : BitVec 32 := 17#32
  let v418 : BitVec 32 := Scalar.addi v2 c17_i32_355
  let c32_i32_356 : BitVec 32 := 32#32
  let v419 : BitVec 32 := Scalar.remsi v418 c32_i32_356
  let c1_i32_360 : BitVec 32 := 1#32
  let v420 : BitVec 32 := Scalar.muli v419 c1_i32_360
  let v421 : BitVec 32 := Scalar.addi c0_i32_361 v420
  v421.toNat
def k0_dev49 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_364 : BitVec 32 := 18#32
  let v428 : BitVec 32 := Scalar.addi v2 c18_i32_364
  let c32_i32_365 : BitVec 32 := 32#32
  let v429 : BitVec 32 := Scalar.remsi v428 c32_i32_365
  let c1_i32_369 : BitVec 32 := 1#32
  let v430 : BitVec 32 := Scalar.muli v429 c1_i32_369
  let v431 : BitVec 32 := Scalar.addi c0_i32_370 v430
  v431.toNat
def k0_dev50 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_373 : BitVec 32 := 19#32
  let v438 : BitVec 32 := Scalar.addi v2 c19_i32_373
  let c32_i32_374 : BitVec 32 := 32#32
  let v439 : BitVec 32 := Scalar.remsi v438 c32_i32_374
  let c1_i32_378 : BitVec 32 := 1#32
  let v440 : BitVec 32 := Scalar.muli v439 c1_i32_378
  let v441 : BitVec 32 := Scalar.addi c0_i32_379 v440
  v441.toNat
def k0_dev51 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_382 : BitVec 32 := 20#32
  let v448 : BitVec 32 := Scalar.addi v2 c20_i32_382
  let c32_i32_383 : BitVec 32 := 32#32
  let v449 : BitVec 32 := Scalar.remsi v448 c32_i32_383
  let c1_i32_387 : BitVec 32 := 1#32
  let v450 : BitVec 32 := Scalar.muli v449 c1_i32_387
  let v451 : BitVec 32 := Scalar.addi c0_i32_388 v450
  v451.toNat
def k0_dev52 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_391 : BitVec 32 := 21#32
  let v458 : BitVec 32 := Scalar.addi v2 c21_i32_391
  let c32_i32_392 : BitVec 32 := 32#32
  let v459 : BitVec 32 := Scalar.remsi v458 c32_i32_392
  let c1_i32_396 : BitVec 32 := 1#32
  let v460 : BitVec 32 := Scalar.muli v459 c1_i32_396
  let v461 : BitVec 32 := Scalar.addi c0_i32_397 v460
  v461.toNat
def k0_dev53 (d0 : Dev nD) : Nat :=
  let c0_i32_406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_400 : BitVec 32 := 22#32
  let v468 : BitVec 32 := Scalar.addi v2 c22_i32_400
  let c32_i32_401 : BitVec 32 := 32#32
  let v469 : BitVec 32 := Scalar.remsi v468 c32_i32_401
  let c1_i32_405 : BitVec 32 := 1#32
  let v470 : BitVec 32 := Scalar.muli v469 c1_i32_405
  let v471 : BitVec 32 := Scalar.addi c0_i32_406 v470
  v471.toNat
def k0_dev54 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_409 : BitVec 32 := 23#32
  let v478 : BitVec 32 := Scalar.addi v2 c23_i32_409
  let c32_i32_410 : BitVec 32 := 32#32
  let v479 : BitVec 32 := Scalar.remsi v478 c32_i32_410
  let c1_i32_414 : BitVec 32 := 1#32
  let v480 : BitVec 32 := Scalar.muli v479 c1_i32_414
  let v481 : BitVec 32 := Scalar.addi c0_i32_415 v480
  v481.toNat
def k0_dev55 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_418 : BitVec 32 := 24#32
  let v488 : BitVec 32 := Scalar.addi v2 c24_i32_418
  let c32_i32_419 : BitVec 32 := 32#32
  let v489 : BitVec 32 := Scalar.remsi v488 c32_i32_419
  let c1_i32_423 : BitVec 32 := 1#32
  let v490 : BitVec 32 := Scalar.muli v489 c1_i32_423
  let v491 : BitVec 32 := Scalar.addi c0_i32_424 v490
  v491.toNat
def k0_dev56 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_427 : BitVec 32 := 25#32
  let v498 : BitVec 32 := Scalar.addi v2 c25_i32_427
  let c32_i32_428 : BitVec 32 := 32#32
  let v499 : BitVec 32 := Scalar.remsi v498 c32_i32_428
  let c1_i32_432 : BitVec 32 := 1#32
  let v500 : BitVec 32 := Scalar.muli v499 c1_i32_432
  let v501 : BitVec 32 := Scalar.addi c0_i32_433 v500
  v501.toNat
def k0_dev57 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_436 : BitVec 32 := 26#32
  let v508 : BitVec 32 := Scalar.addi v2 c26_i32_436
  let c32_i32_437 : BitVec 32 := 32#32
  let v509 : BitVec 32 := Scalar.remsi v508 c32_i32_437
  let c1_i32_441 : BitVec 32 := 1#32
  let v510 : BitVec 32 := Scalar.muli v509 c1_i32_441
  let v511 : BitVec 32 := Scalar.addi c0_i32_442 v510
  v511.toNat
def k0_dev58 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_445 : BitVec 32 := 27#32
  let v518 : BitVec 32 := Scalar.addi v2 c27_i32_445
  let c32_i32_446 : BitVec 32 := 32#32
  let v519 : BitVec 32 := Scalar.remsi v518 c32_i32_446
  let c1_i32_450 : BitVec 32 := 1#32
  let v520 : BitVec 32 := Scalar.muli v519 c1_i32_450
  let v521 : BitVec 32 := Scalar.addi c0_i32_451 v520
  v521.toNat
def k0_dev59 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_454 : BitVec 32 := 28#32
  let v528 : BitVec 32 := Scalar.addi v2 c28_i32_454
  let c32_i32_455 : BitVec 32 := 32#32
  let v529 : BitVec 32 := Scalar.remsi v528 c32_i32_455
  let c1_i32_459 : BitVec 32 := 1#32
  let v530 : BitVec 32 := Scalar.muli v529 c1_i32_459
  let v531 : BitVec 32 := Scalar.addi c0_i32_460 v530
  v531.toNat
def k0_dev60 (d0 : Dev nD) : Nat :=
  let c0_i32_469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_463 : BitVec 32 := 29#32
  let v538 : BitVec 32 := Scalar.addi v2 c29_i32_463
  let c32_i32_464 : BitVec 32 := 32#32
  let v539 : BitVec 32 := Scalar.remsi v538 c32_i32_464
  let c1_i32_468 : BitVec 32 := 1#32
  let v540 : BitVec 32 := Scalar.muli v539 c1_i32_468
  let v541 : BitVec 32 := Scalar.addi c0_i32_469 v540
  v541.toNat
def k0_dev61 (d0 : Dev nD) : Nat :=
  let c0_i32_478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_472 : BitVec 32 := 30#32
  let v548 : BitVec 32 := Scalar.addi v2 c30_i32_472
  let c32_i32_473 : BitVec 32 := 32#32
  let v549 : BitVec 32 := Scalar.remsi v548 c32_i32_473
  let c1_i32_477 : BitVec 32 := 1#32
  let v550 : BitVec 32 := Scalar.muli v549 c1_i32_477
  let v551 : BitVec 32 := Scalar.addi c0_i32_478 v550
  v551.toNat
def k0_dev62 (d0 : Dev nD) : Nat :=
  let c0_i32_487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_481 : BitVec 32 := 31#32
  let v558 : BitVec 32 := Scalar.addi v2 c31_i32_481
  let c32_i32_482 : BitVec 32 := 32#32
  let v559 : BitVec 32 := Scalar.remsi v558 c32_i32_482
  let c1_i32_486 : BitVec 32 := 1#32
  let v560 : BitVec 32 := Scalar.muli v559 c1_i32_486
  let v561 : BitVec 32 := Scalar.addi c0_i32_487 v560
  v561.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x512 : Shape := ⟨2, ![32768, 512]⟩
abbrev S_ : Shape := ⟨0, ![]⟩
abbrev S512 : Shape := ⟨1, ![512]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S_, .bf16⟩
  | .hbm, ⟨2, _⟩ => ⟨S512, .bf16⟩
  | .hbm, ⟨3, _⟩ => ⟨S_, .bf16⟩
  | .hbm, ⟨4, _⟩ => ⟨S32768x512, .bf16⟩
  | .hbm, ⟨5, _⟩ => ⟨S_, .i32⟩
  | .hbm, ⟨6, _⟩ => ⟨S32768x512, .bf16⟩
  | .hbm, ⟨7, _⟩ => ⟨S_, .i32⟩
  | .hbm, ⟨8, _⟩ => ⟨S512, .bf16⟩
  | .hbm, ⟨9, _⟩ => ⟨S32768x512, .bf16⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x512, .bf16⟩
  | .hbm, ⟨14, _⟩ => ⟨S512, .bf16⟩
  | .hbm, ⟨15, _⟩ => ⟨S512, .bf16⟩
  | .hbm, ⟨16, _⟩ => ⟨S1x512, .bf16⟩
  | .hbm, ⟨17, _⟩ => ⟨S_, .i32⟩
  | .hbm, ⟨18, _⟩ => ⟨S32768x512, .bf16⟩
  | .hbm, ⟨19, _⟩ => ⟨S_, .i32⟩
  | .hbm, ⟨20, _⟩ => ⟨S_, .i32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 32768#32, 1#32⟩
-- ==== Proof.Cells.lean ====
/-
The semaphores and buffers of the kernel, and the numbering of its devices.

Thirty-two devices sit on one mesh axis. For an offset `j` the device `up c j` is `j` places after `c` and `dn c j` is
`j` places before it, both modulo 32. Every device owns one barrier semaphore, thirty-two send semaphores and
thirty-two receive semaphores; entry `0` of the last two families is never used. The landing buffer has thirty-two
slots, slot `j` being the one that the device `j` places before fills.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Cumprod

open Cert.KernelIdeal Cert.KernelIdeal.Gen
open Idealize.ShloMosaic Idealize.ShloMosaic.TcCoe

/-! ## Devices -/

/-- The device `j` places after `c`. -/
def up (c : Dev nD) (j : Fin 32) : Dev nD := ⟨(c.val + j.val) % 32, Nat.mod_lt _ (by omega)⟩
/-- The device `j` places before `c`. -/
def dn (c : Dev nD) (j : Fin 32) : Dev nD := ⟨(c.val + (32 - j.val)) % 32, Nat.mod_lt _ (by omega)⟩

theorem dn_up (c : Dev nD) (j : Fin 32) : dn (up c j) j = c := by
  have hc : c.val < 32 := c.isLt
  have hj := j.isLt
  apply Fin.ext; simp only [up, dn]; omega
theorem up_dn (c : Dev nD) (j : Fin 32) : up (dn c j) j = c := by
  have hc : c.val < 32 := c.isLt
  have hj := j.isLt
  apply Fin.ext; simp only [up, dn]; omega
theorem up_ne (c : Dev nD) {j : Fin 32} (h : j ≠ 0) : up c j ≠ c := by
  have hc : c.val < 32 := c.isLt
  have hj := j.isLt
  have h0 : j.val ≠ 0 := fun e => h (Fin.ext e)
  intro e; have := congrArg Fin.val e; simp only [up] at this; omega

/-- Going `j` places up is a bijection of the devices. -/
def shift (j : Fin 32) : Dev nD ≃ Dev nD := ⟨fun c => up c j, fun c => dn c j, fun c => dn_up c j, fun c => up_dn c j⟩

theorem up_eq_iff {d c : Dev nD} {j : Fin 32} : Iff (up d j = c) (d = dn c j) :=
  ⟨fun h => by rw [← h, dn_up], fun h => by rw [h, up_dn]⟩
theorem dn_eq_iff {d c : Dev nD} {j : Fin 32} : Iff (dn d j = c) (d = up c j) :=
  ⟨fun h => by rw [← h, up_dn], fun h => by rw [h, dn_up]⟩

/-! ## Semaphores -/

theorem inb_sem (j : Fin 32) : ∀ a, (![j.val] : Fin 1 → Nat) a + S1.size a ≤ S32.size a := by
  have hj := j.isLt
  intro a; fin_cases a; show j.val + 1 ≤ 32; omega

/-- The runtime's barrier semaphore. -/
abbrev barS : Sem sig := (SemArray.scalar (sig.barrier 0 rfl) : Sems sig S_).sem
/-- The semaphore a device's send at offset `j` completes on. -/
abbrev sendS (j : Fin 32) : DmaSem sig :=
  (((cc0_scratch3 : DmaSems sig S32).slice (Rect.unit (s := S32) ![j.val] S1.size (inb_sem j))).squeeze S_ squeezes_S1_S_).sem
/-- The semaphore the copy arriving at offset `j` completes on. -/
abbrev recvS (j : Fin 32) : DmaSem sig :=
  (((cc0_scratch4 : DmaSems sig S32).slice (Rect.unit (s := S32) ![j.val] S1.size (inb_sem j))).squeeze S_ squeezes_S1_S_).sem

/-- The kinds of semaphore of one device: the barrier, the sends, the receives. -/
abbrev CK : Type := Unit ⊕ (Fin 32 ⊕ Fin 32)

/-- The barrier kind. -/
abbrev kB : CK := .inl ()
/-- The send kind at an offset. -/
abbrev kS (j : Fin 32) : CK := .inr (.inl j)
/-- The receive kind at an offset. -/
abbrev kR (j : Fin 32) : CK := .inr (.inr j)

/-- The semaphore of each kind. -/
def csem : CK → SemLoc sig
  | .inl _ => .reg barS
  | .inr (.inl j) => .dma (sendS j)
  | .inr (.inr j) => .dma (recvS j)

/-- Which kind a semaphore is, if it is one of these. -/
def kindOf : SemLoc sig → Option CK
  | .reg _ => some kB
  | .dma q => if h : 34 ≤ q.val ∧ q.val < 66 then some (kR ⟨q.val - 34, by omega⟩)
      else if h : 2 ≤ q.val ∧ q.val < 34 then some (kS ⟨q.val - 2, by omega⟩) else none

theorem kindOf_csem : ∀ k : CK, kindOf (csem k) = some k := by decide +kernel

theorem csem_injective : Function.Injective csem := fun a b h =>
  Option.some.inj ((kindOf_csem a).symm.trans ((congrArg kindOf h).trans (kindOf_csem b)))

/-- A semaphore of a given kind on a given device. -/
abbrev kcell (ck : Dev nD × CK) : GSem nD τ sig := ((ck.1 : Thread nD τ), csem ck.2)
abbrev barCell (c : Dev nD) : GSem nD τ sig := ((c : Thread nD τ), .reg barS)
abbrev sendCell (c : Dev nD) (j : Fin 32) : GSem nD τ sig := ((c : Thread nD τ), .dma (sendS j))
abbrev recvCell (c : Dev nD) (j : Fin 32) : GSem nD τ sig := ((c : Thread nD τ), .dma (recvS j))

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The kernel's own semaphores as one list: the sends, then the receives. -/
def osem (k : Fin 64) : SemLoc sig := .dma ⟨k.val + 2, by have := k.isLt; show k.val + 2 < 66; omega⟩

theorem osem_send : ∀ j : Fin 32, osem (finSumFinEquiv (m := 32) (n := 32) (.inl j)) = csem (kS j) := by decide +kernel
theorem osem_recv : ∀ j : Fin 32, osem (finSumFinEquiv (m := 32) (n := 32) (.inr j)) = csem (kR j) := by decide +kernel

/-! ## Buffers -/

/-- The staged operand block, the staged result block, the running products, the local total, the landing buffer. -/
abbrev xM : Memref sig .tc .vmem S1024x512 .bf16 := Memref.whole cc0_stg0_0
abbrev oM : Memref sig .tc .vmem S1024x512 .bf16 := Memref.whole cc0_stg1_0
abbrev aM : Memref sig .tc .vmem S1024x512 .f32 := Memref.whole cc0_scratch0
abbrev vM : Memref sig .tc .vmem S1x512 .f32 := Memref.whole cc0_scratch1
abbrev cM : Memref sig .tc .vmem S32x1x512 .f32 := Memref.whole cc0_scratch2

theorem inb_slot (j : Fin 32) : ∀ a, (![j.val, 0, 0] : Fin 3 → Nat) a + S1x1x512.size a ≤ S32x1x512.size a := by
  have hj := j.isLt
  intro a; fin_cases a
  · show j.val + 1 ≤ 32; omega
  · show 0 + 1 ≤ 1; omega
  · show 0 + 512 ≤ 512; omega

/-- Slot `j` of the landing buffer. -/
abbrev slotM (j : Fin 32) : Memref sig .tc .vmem S1x512 .f32 :=
  ((cM.slice (Rect.unit (s := S32x1x512) ![j.val, 0, 0] S1x1x512.size (inb_slot j)) (fun _ => rfl)).squeeze S1x512 squeezes_S1x1x512_S1x512)

/-- The credit of one copy of a total. -/
abbrev N : ℕ := vM.view.dmaCredit
theorem N_pos : 0 < N := View.dmaCredit_pos _ (by decide)
theorem N_slot (j : Fin 32) : (slotM j).view.dmaCredit = N := rfl

/-- The position in the landing buffer of lane `y` of slot `j`. -/
def slotIx (j : Fin 32) (y : Fin 512) : S32x1x512.Idx := fun | 0 => j | 1 => (0 : Fin 1) | 2 => y
/-- The position of lane `y` in a one-row vector. -/
def rowIx (y : Fin 512) : S1x512.Idx := fun | 0 => (0 : Fin 1) | 1 => y

theorem rowIx_eta (x : S1x512.Idx) : rowIx (x 1) = x := by
  funext a; fin_cases a
  · exact Fin.ext (by have : (x 0).val < 1 := (x 0).isLt; show 0 = (x 0).val; omega)
  · rfl
theorem slotIx_eta (i : S32x1x512.Idx) : slotIx (i 0) (i 2) = i := by
  funext a; fin_cases a
  · rfl
  · exact Fin.ext (by have : (i 1).val < 1 := (i 1).isLt; show 0 = (i 1).val; omega)
  · rfl

/-- Slot `j` covers the positions whose first coordinate is `j`, lane by lane. -/
theorem slot_emb (j : Fin 32) (x : S1x512.Idx) : (slotM j).view.emb x = slotIx j (x 1) := by
  have e : Shape.reshapeEquiv (s := S1x1x512) (s' := S1x512) (by decide) x = (fun | 0 => (0 : Fin 1) | 1 => (0 : Fin 1) | 2 => x 1 : S1x1x512.Idx) := by
    apply Shape.reshapeEquiv_eq_of_rowMajor
    rw [Shape.rowMajor_val_three, Shape.rowMajor_val_two]
    have : (x 0).val < 1 := (x 0).isLt
    show (0 * 1 + 0) * 512 + (x 1).val = (x 0).val * 512 + (x 1).val
    omega
  show (Rect.unit (s := S32x1x512) ![j.val, 0, 0] S1x1x512.size (inb_slot j)).emb (Shape.reshapeEquiv (s := S1x1x512) (s' := S1x512) _ x) = slotIx j (x 1)
  rw [e]
  funext a
  apply Fin.ext
  fin_cases a
  · show j.val + 1 * 0 = j.val; omega
  · rfl
  · show 0 + 1 * (x 1).val = (x 1).val; omega

/-- The positions slot `j` covers. -/
abbrev slotSet (j : Fin 32) : Finset S32x1x512.Idx := (slotM j).view.set

theorem mem_slot {j : Fin 32} {i : S32x1x512.Idx} : Iff (i ∈ slotSet j) (i 0 = j) := by
  constructor
  · intro h
    obtain ⟨x, -, hx⟩ := Finset.mem_map.mp h
    rw [← hx]
    exact congrFun (slot_emb j x) 0
  · intro h
    have : (slotM j).view.emb (rowIx (i 2)) = i := by
      rw [slot_emb]; show slotIx j (i 2) = i; rw [← h, slotIx_eta]
    rw [← this]; exact View.emb_mem_set _ _

theorem slots_disjoint (j j' : Fin 32) (h : j ≠ j') : Disjoint (slotSet j) (slotSet j') :=
  Finset.disjoint_left.mpr fun i hi hi' => h ((mem_slot.mp hi).symm.trans (mem_slot.mp hi'))

theorem slots_cover : (Finset.univ : Finset (Fin 32)).biUnion slotSet = Finset.univ :=
  Finset.eq_univ_iff_forall.mpr fun i => Finset.mem_biUnion.mpr ⟨i 0, Finset.mem_univ _, mem_slot.mpr rfl⟩

end Cert.Cumprod

end
-- ==== Proof.Protocol.lean ====
/-
The protocol between the devices, written down before the run is followed.

* Barrier semaphore of device `c`. Waited on once by `c`, for 31. Signalled once by each other device; the signal of
  the device `up c j` is duty `j`, one unit, and hands over slot `j` of the landing buffer of `up c j`, contents
  arbitrary. After its wait `c` may therefore write slot `j` of every device `j` places after it.
* Send semaphore `j` of device `c`, `j ≠ 0`. One duty, the credit of one row, completed by `c`'s own copy at offset
  `j`; it hands back the share of the local total that the copy was reading.
* Receive semaphore `j` of device `c`, `j ≠ 0`. One duty, the credit of one row, completed by the copy of `dn c j` at
  offset `j`; it hands over slot `j` of `c`'s landing buffer, holding the local total of `dn c j`.
* Send and receive semaphore `0`: no duty.

Each semaphore has one round. A device waits on its barrier while it still owes the receive credits, and on the others
owing nothing, so barriers sit below receives in the order that excludes deadlock.
-/
module

public import proofs.«01_k».proof.Proof.Cells
public import Idealize.ShloMosaic.Lib.Transfers

@[expose] public section

set_option maxRecDepth 16384

noncomputable section

namespace Cert.Cumprod

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

/-- Duties are named by offsets. -/
abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any memory, every counter zero, any generator registers. -/
def s₀ : MemSt nD τ sig (Elt F) := ⟨m, fun _ => 0, ρ⟩

/-! ## Contents -/

/-- Device `c`'s block of the operand, as staged. -/
def xAt (c : Dev nD) : (cc0_stg0_0 : Ref sig .tc).ty.Contents (Elt F) :=
  (win0_0.blk (0 : Fin 1)).view.read (Elt F) ((s₀ m ρ).mem ((c : Thread nD τ).loc main_arg0))

/-- The product of all rows of a block, as the kernel computes it. -/
def totalOf (x : Vec F S1024x512 .bf16) : FVec F S1x512 .f32 := k0_pay4 (k0_pay3 x)

/-- The local total of device `c`. -/
def total (c : Dev nD) : (cc0_scratch1 : Ref sig .tc).ty.Contents (Elt F) := totalOf (xAt m ρ c)

/-- The landing buffer of `c` once every copy has arrived: slot `j` holds the total of `dn c j`. -/
def landed (c : Dev nD) : (cc0_scratch2 : Ref sig .tc).ty.Contents (Elt F) :=
  fun i => total m ρ (dn c (i (0 : Fin 3))) (rowIx (i (2 : Fin 3)))

/-- Writing the total of `c` through slot `j` of the device `j` after it leaves there what `landed` says. -/
theorem landed_write (c : Dev nD) (j : Fin 32) (fd : (cc0_scratch2 : Ref sig .tc).ty.Contents (Elt F)) :
    ∀ i ∈ slotSet j, (slotM j).view.write (Elt F) fd (vM.view.read (Elt F) (total m ρ c)) Finset.univ i = landed m ρ (up c j) i := by
  intro i hi
  obtain ⟨x, -, rfl⟩ := Finset.mem_map.mp hi
  refine (View.write_emb_of_mem (v := (slotM j).view) (Val := Elt F) fd (vM.view.read (Elt F) (total m ρ c)) (Finset.mem_univ x)).trans ?_
  have e : landed m ρ (up c j) ((slotM j).view.emb x) = total m ρ (dn (up c j) j) (rowIx (x 1)) := by
    rw [slot_emb]; rfl
  refine Eq.trans ?_ e.symm
  rw [dn_up, rowIx_eta]
  rfl

/-! ## Points-to facts -/

/-- Slot `j` of `c`'s landing buffer, contents as in `f`. -/
def slotPts (c : Dev nD) (j : Fin 32) (f : Buf (Elt F) ((c : Thread nD τ).loc cc0_scratch2)) : sProp 𝕄 :=
  ((c : Thread nD τ).loc cc0_scratch2) ↦[slotSet j]{fullShare} f
/-- A share of `c`'s local total. -/
def totPts (c : Dev nD) (q : PosShare TreeShare) : sProp 𝕄 :=
  ((c : Thread nD τ).loc cc0_scratch1) ↦{q} total m ρ c

omit [FloatOps F] in
instance slotPts_storable (c : Dev nD) (j : Fin 32) (f) : BI.Storable (upEmb : UEmb _ 𝕄) (slotPts (F := F) c j f) := by unfold slotPts; infer_instance
instance totPts_storable (c : Dev nD) (q) : BI.Storable (upEmb : UEmb _ 𝕄) (totPts (F := F) m ρ c q) := by unfold totPts; infer_instance

/-- The share of the local total that the copy at offset `j` reads. -/
def shareAt (j : Fin 32) : PosShare TreeShare := Transfers.shareTok fullShare 32 j

/-! ## The schedule -/

/-- The duties of one semaphore: the barrier has one for each other device, a send or receive entry other than `0` has
    its own. -/
def dutySet : CK → Finset (Fin 32)
  | .inl _ => Finset.univ.erase 0
  | .inr (.inl j) => if j = 0 then ∅ else {j}
  | .inr (.inr j) => if j = 0 then ∅ else {j}

/-- The amount of each of its duties. -/
def amt : CK → ℕ
  | .inl _ => 1
  | .inr _ => N

/-- What duty `d` of a semaphore of device `c` hands over. -/
def pay (c : Dev nD) : CK → Fin 32 → sProp 𝕄
  | .inl _, d => iprop(∃ f, slotPts (up c d) d f)
  | .inr (.inl j), _ => totPts m ρ c (shareAt j)
  | .inr (.inr j), _ => slotPts c j (landed m ρ c)

theorem amt_pos (k : CK) : 0 < amt k := by
  rcases k with _ | _
  · exact Nat.one_pos
  · exact N_pos

instance pay_storable (c : Dev nD) (k : CK) (d : Fin 32) : BI.Storable (upEmb : UEmb _ 𝕄) (pay (F := F) m ρ c k d) := by
  rcases k with _ | _ | _ <;> (unfold pay; infer_instance)

/-- The whole protocol: round `0` of every semaphore of a TensorCore as above, nothing after it. -/
def sched : Rounds.Schedule (GSem nD τ sig) (Fin 32) 𝕄 where
  duties g r := if r = 0 ∧ g.1.2 = .tc then (match kindOf g.2 with | some k => dutySet k | none => ∅) else ∅
  unitless _ := False
  amount g _ _ := match kindOf g.2 with | some k => amt k | none => 1
  payload g _ d := match kindOf g.2 with | some k => pay m ρ g.1.1 k d | none => iprop(emp)
  amount_pos g _ _ _ := by
    rcases kindOf g.2 with _ | k
    · exact Nat.one_pos
    · exact amt_pos k

instance sched_storable (g : GSem nD τ sig) (r : ℕ) (d : Fin 32) : BI.Storable (upEmb : UEmb _ 𝕄) ((sched (F := F) m ρ).payload g r d) := by
  show BI.Storable upEmb (match kindOf g.2 with | some k => pay m ρ g.1.1 k d | none => iprop(emp))
  rcases kindOf g.2 with _ | k <;> infer_instance

variable (c : Dev nD)

theorem duties_cell (k : CK) : (sched (F := F) m ρ).duties (kcell (c, k)) 0 = dutySet k := by
  dsimp only [sched]; rw [kindOf_csem]; exact if_pos ⟨rfl, rfl⟩
theorem duties_later (g : GSem nD τ sig) : ∀ r, 1 ≤ r → (sched (F := F) m ρ).duties g r = ∅ :=
  fun r hr => by dsimp only [sched]; rw [if_neg fun h => by omega]
theorem duties_none (g : GSem nD τ sig) (h : (sched (F := F) m ρ).duties g 0 = ∅) : ∀ r, 0 ≤ r → (sched (F := F) m ρ).duties g r = ∅ :=
  fun r _ => by
    rcases Nat.eq_zero_or_pos r with rfl | hr
    · exact h
    · exact duties_later m ρ g r hr
theorem amount_cell (k : CK) (d : Fin 32) : (sched (F := F) m ρ).amount (kcell (c, k)) 0 d = amt k := by
  dsimp only [sched]; rw [kindOf_csem]
theorem payload_cell (k : CK) (d : Fin 32) : (sched (F := F) m ρ).payload (kcell (c, k)) 0 d = pay m ρ c k d := by
  dsimp only [sched]; rw [kindOf_csem]

/-- All duties of one semaphore together. -/
theorem expect_cell (k : CK) : (sched (F := F) m ρ).expect (kcell (c, k)) 0 = (dutySet k).card * amt k := by
  unfold Schedule.expect Schedule.amountOf
  rw [duties_cell, Finset.sum_congr rfl fun d _ => amount_cell m ρ c k d, Finset.sum_const, smul_eq_mul]
theorem rest_cell (k : CK) : bigSep ((sched (F := F) m ρ).duties (kcell (c, k)) 0 \ ∅) (fun d => (sched (F := F) m ρ).payload (kcell (c, k)) 0 d)
    = bigSep (dutySet k) fun d => pay m ρ c k d := by
  rw [Finset.sdiff_empty, duties_cell]
  exact bigSep_congr fun d _ => payload_cell m ρ c k d

/-! ## Offsets still to do, and already done -/

/-- The offsets `n, …, 31`. -/
def todo (n : ℕ) : Finset (Fin 32) := Finset.univ.filter fun j => n ≤ j.val
/-- The offsets `1, …, n − 1`. -/
def done (n : ℕ) : Finset (Fin 32) := Finset.univ.filter fun j => 1 ≤ j.val ∧ j.val < n

theorem todo_step (j : Fin 32) : todo j.val = insert j (todo (j.val + 1)) := by
  ext i; simp only [todo, Finset.mem_filter, Finset.mem_univ, true_and, Finset.mem_insert, Fin.ext_iff]; omega
theorem not_mem_todo (j : Fin 32) : j ∉ todo (j.val + 1) := by
  simp only [todo, Finset.mem_filter, Finset.mem_univ, true_and]; omega
theorem done_step (j : Fin 32) (h : 1 ≤ j.val) : done (j.val + 1) = insert j (done j.val) := by
  ext i; simp only [done, Finset.mem_filter, Finset.mem_univ, true_and, Finset.mem_insert, Fin.ext_iff]; omega
theorem not_mem_done (j : Fin 32) : j ∉ done j.val := by
  simp only [done, Finset.mem_filter, Finset.mem_univ, true_and]; omega
theorem todo_one : todo 1 = Finset.univ.erase 0 := by
  ext i; simp only [todo, Finset.mem_filter, Finset.mem_univ, true_and, Finset.mem_erase, ne_eq, Fin.ext_iff, and_true]
  show 1 ≤ i.val ↔ ¬ i.val = 0; omega
theorem todo_end : todo 32 = ∅ := by
  ext i; have := i.isLt
  simp only [todo, Finset.mem_filter, Finset.mem_univ, true_and, Finset.notMem_empty, iff_false]; omega
theorem done_one : done 1 = ∅ := by
  ext i; simp only [done, Finset.mem_filter, Finset.mem_univ, true_and, Finset.notMem_empty, iff_false]; omega
theorem done_end : done 32 = Finset.univ.erase 0 := by
  rw [← todo_one]; ext i; have := i.isLt
  simp only [todo, done, Finset.mem_filter, Finset.mem_univ, true_and]; omega

/-! ## What a device owes -/

/-- The barrier units still to be signalled. -/
def owesB (n : ℕ) : CellTallies nD τ sig Unit := ∑ j ∈ todo n, tallyAt (barCell (dn c j)) () 1
/-- The receive credits still to be delivered. -/
def owesR (n : ℕ) : CellTallies nD τ sig Unit := ∑ j ∈ todo n, tallyAt (recvCell (up c j) j) () N
/-- What a device owes at launch. -/
def owes₀ : CellTallies nD τ sig Unit := owesR c 1 + owesB c 1

theorem owesB_step (j : Fin 32) : owesB c j.val = owesB c (j.val + 1) + tallyAt (barCell (dn c j)) () 1 := by
  unfold owesB; rw [todo_step, Finset.sum_insert (not_mem_todo j), add_comm]
theorem owesR_step (j : Fin 32) : owesR c j.val = owesR c (j.val + 1) + tallyAt (recvCell (up c j) j) () N := by
  unfold owesR; rw [todo_step, Finset.sum_insert (not_mem_todo j), add_comm]
theorem owesB_end : owesB c 32 = 0 := by unfold owesB; rw [todo_end, Finset.sum_empty]
theorem owesR_end : owesR c 32 = 0 := by unfold owesR; rw [todo_end, Finset.sum_empty]

theorem owesB_pos {n : ℕ} {g : GSem nD τ sig} {u : Unit} (h : 0 < owesB c n g u) : ∃ j, g = barCell (dn c j) := by
  unfold owesB at h
  rw [Finset.sum_apply, Finsupp.finset_sum_apply] at h
  obtain ⟨j, -, hj⟩ := Finset.exists_ne_zero_of_sum_ne_zero (Nat.pos_iff_ne_zero.mp h)
  refine ⟨j, ?_⟩
  by_contra hn
  rw [tallyAt_apply, if_neg fun h' => hn h'.1] at hj
  exact hj rfl
theorem owesR_pos {n : ℕ} {g : GSem nD τ sig} {u : Unit} (h : 0 < owesR c n g u) : ∃ j, g = recvCell (up c j) j := by
  unfold owesR at h
  rw [Finset.sum_apply, Finsupp.finset_sum_apply] at h
  obtain ⟨j, -, hj⟩ := Finset.exists_ne_zero_of_sum_ne_zero (Nat.pos_iff_ne_zero.mp h)
  refine ⟨j, ?_⟩
  by_contra hn
  rw [tallyAt_apply, if_neg fun h' => hn h'.1] at hj
  exact hj rfl
theorem owes₀_pos {g : GSem nD τ sig} {u : Unit} (h : 0 < owes₀ c g u) : (∃ j, g = recvCell (up c j) j) ∨ ∃ j, g = barCell (dn c j) := by
  unfold owes₀ at h
  rw [Pi.add_apply, Finsupp.add_apply] at h
  rcases Nat.eq_zero_or_pos (owesR c 1 g u) with h0 | h0
  · exact Or.inr (owesB_pos c (n := 1) (u := u) (by omega))
  · exact Or.inl (owesR_pos c h0)

/-! ## Levels -/

/-- Which semaphores the order ranks: those of the TensorCores. -/
def L (g : GSem nD τ sig) : Finset Unit := if g.1.2 = .tc then {()} else ∅
/-- Receives above barriers, barriers above everything else. -/
def lv (g : GSem nD τ sig) (_ : Unit) : ℕ := match kindOf g.2 with | some (.inl _) => 1 | some (.inr (.inr _)) => 2 | _ => 0

theorem L_of_ne (g : GSem nD τ sig) (h : g.1.2 ≠ .tc) : L g = ∅ := if_neg h
theorem L_tc (sm : SemLoc sig) : L ((c : Thread nD τ), sm) = {()} := if_pos rfl
theorem lv_bar : lv (barCell c) () = 1 := rfl
theorem lv_recv (j : Fin 32) : lv (recvCell c j) () = 2 := by
  show (match kindOf (csem (kR j)) with | some (.inl _) => 1 | some (.inr (.inr _)) => 2 | _ => 0) = 2
  rw [kindOf_csem]

/-- A staging semaphore may be waited on whatever the device owes at that point. -/
theorem mayWait_stage (q : DmaSem sig) (hq : q.val < 2) (O : CellTallies nD τ sig Unit) (hO : O = owes₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owes₀_pos c hg with ⟨j, rfl⟩ | ⟨j, rfl⟩ <;> exact Finset.mem_singleton_self _)
      (fun p hp => by
        rw [Finset.mem_singleton.mp hp]
        have e : kindOf (.dma q) = none := by
          show (if h : 34 ≤ q.val ∧ q.val < 66 then some (kR ⟨q.val - 34, by omega⟩)
            else if h : 2 ≤ q.val ∧ q.val < 34 then some (kS ⟨q.val - 2, by omega⟩) else none) = none
          rw [dif_neg (fun h => by have := h.1; omega), dif_neg (fun h => by have := h.1; omega)]
        show (match kindOf (.dma q) with | some (.inl _) => 1 | some (.inr (.inr _)) => 2 | _ => 0) ≤ 0
        rw [e])
      (fun g u hg => by
        rcases owes₀_pos c hg with ⟨j, rfl⟩ | ⟨j, rfl⟩
        · exact (lv_recv (up c j) j).symm ▸ Nat.two_pos
        · exact Nat.one_pos)
  · rw [MayWait_zero]; iintro -; iempintro

/-- A device may wait on its barrier while it owes receive credits only. -/
theorem mayWait_bar : (levAts L lv : sProp 𝕄) ⊢ MayWait (c : Thread nD τ) (.reg barS) () (owesR c 1) :=
  MayOwe.of_cut (L := L) (lev := lv) 1 (fun p hp => by rw [Finset.mem_singleton.mp hp, L_tc]; exact Finset.mem_singleton_self _)
    (fun g u hg => by obtain ⟨j, rfl⟩ := owesR_pos c hg; exact Finset.mem_singleton_self _)
    (fun p hp => by rw [Finset.mem_singleton.mp hp]; exact le_refl 1)
    (fun g u hg => by obtain ⟨j, rfl⟩ := owesR_pos c hg; exact (lv_recv (up c j) j).symm ▸ Nat.one_lt_two)

end Cert.Cumprod

end
-- ==== Proof.Steps.lean ====
/-
One lemma for each kind of step the protocol takes: a signal, a wait on the barrier, a copy sent, a wait on a send and
a wait on a receive. Each is stated at an arbitrary offset, and moves a state from "offsets from `j` on still to do"
to "offsets from `j + 1` on still to do".
-/
module

public import proofs.«01_k».proof.Proof.Protocol

@[expose] public section

set_option maxRecDepth 16384

noncomputable section

namespace Cert.Cumprod

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows -/

/-- Every semaphore's invariant, under the names `K`, and that each is in its first round. -/
def records (K : Dev nD × CK → ℕ) : sProp 𝕄 :=
  iprop((bigSep Finset.univ fun ck : Dev nD × CK => cellInv ER (sched m ρ) (K ck) (kcell ck))
    ∗ bigSep Finset.univ fun ck : Dev nD × CK => reached ER (kcell ck) 0)

instance records_persistent (K : Dev nD × CK → ℕ) : BI.Persistent (records m ρ K) := by unfold records; infer_instance

theorem records_inv (K : Dev nD × CK → ℕ) (ck : Dev nD × CK) : records m ρ K ⊢ cellInv ER (sched m ρ) (K ck) (kcell ck) := by
  unfold records; exact (Idealize.SL.BI.sep_and.trans Idealize.SL.BI.and_elimL).trans (bigSep_elim (Finset.mem_univ ck))
theorem records_reached (K : Dev nD × CK → ℕ) (ck : Dev nD × CK) : records m ρ K ⊢ reached ER (kcell ck) 0 := by
  unfold records; exact (Idealize.SL.BI.sep_and.trans Idealize.SL.BI.and_elimR).trans (bigSep_elim (Φ := fun ck : Dev nD × CK => (reached ER (kcell ck) 0 : sProp 𝕄)) (Finset.mem_univ ck))

/-! ## Taking one offset from those to do, adding one to those done -/

omit [FloatOps F] in
theorem todo_take (j : Fin 32) (Φ : Fin 32 → sProp 𝕄) : bigSep (todo j.val) Φ = iprop(Φ j ∗ bigSep (todo (j.val + 1)) Φ) := by
  rw [todo_step, bigSep_insert (not_mem_todo j)]; rfl
omit [FloatOps F] in
theorem done_put (j : Fin 32) (h : 1 ≤ j.val) (Φ : Fin 32 → sProp 𝕄) : bigSep (done (j.val + 1)) Φ = iprop(Φ j ∗ bigSep (done j.val) Φ) := by
  rw [done_step j h, bigSep_insert (not_mem_done j)]; rfl

variable (K : Dev nD × CK → ℕ) (c : Dev nD)

/-! ## States -/

/-- Signals from offset `n` on still to be sent: what is owed, and for each of them the token and the slot it hands over. -/
def SigSt (n : ℕ) : sProp 𝕄 :=
  iprop((∃ W, owes (c : Thread nD τ) (owesR c 1 + owesB c n) W)
    ∗ bigSep (todo n) fun j => iprop(dutyTok ER (barCell (dn c j)) 0 j ∗ ∃ f, slotPts c j f))

/-- Copies from offset `n` on still to be sent: what is owed; for each of them the slot it writes, its two tokens and the
    share it reads; for each copy sent the right to wait for it. -/
def SendSt (n : ℕ) : sProp 𝕄 :=
  iprop((∃ W, owes (c : Thread nD τ) (owesR c n) W)
    ∗ (bigSep (todo n) fun j => iprop((∃ f, slotPts (up c j) j f) ∗ dutyTok ER (sendCell c j) 0 j ∗ dutyTok ER (recvCell (up c j) j) 0 j
        ∗ totPts m ρ c (shareAt j)))
    ∗ bigSep (done n) fun j => cred (tallyAt (sendCell c j) () N))

/-- Nothing owed any more. -/
def idle : sProp 𝕄 := iprop(∃ W, owes (c : Thread nD τ) 0 W)

/-- Waits for the sends from offset `n` on still to be made; the earlier ones made, their semaphores at zero and the
    shares they read back. -/
def WS (n : ℕ) : sProp 𝕄 :=
  iprop((bigSep (todo n) fun j => iprop(cred (tallyAt (sendCell c j) () N) ∗ atPos ER (sendCell c j) 0 ∅ 0))
    ∗ bigSep (done n) fun j => iprop(semVal (sendCell c j) 0 ∗ totPts m ρ c (shareAt j)))

/-- Waits for the arrivals from offset `n` on still to be made; the earlier ones made, their semaphores at zero and their
    slots filled. -/
def WR (n : ℕ) : sProp 𝕄 :=
  iprop((bigSep (todo n) fun j => iprop(cred (tallyAt (recvCell c j) () N) ∗ atPos ER (recvCell c j) 0 ∅ 0))
    ∗ bigSep (done n) fun j => iprop(semVal (recvCell c j) 0 ∗ slotPts c j (landed m ρ c)))

theorem pos_ne {j : Fin 32} (h : 1 ≤ j.val) : j ≠ 0 := fun e => by rw [e] at h; exact absurd h (by decide)
theorem dutySet_send {j : Fin 32} (h : 1 ≤ j.val) : dutySet (kS j) = {j} := if_neg (pos_ne h)
theorem dutySet_recv {j : Fin 32} (h : 1 ≤ j.val) : dutySet (kR j) = {j} := if_neg (pos_ne h)

theorem pay_bar (d : Dev nD) (j : Fin 32) :
    (sched m ρ).payload (barCell d) 0 j = (iprop(∃ f, slotPts (up d j) j f) : sProp 𝕄) := payload_cell m ρ d kB j
theorem rest_bar : (bigSep ((sched m ρ).duties (barCell c) 0 \ ∅) ((sched m ρ).payload (barCell c) 0) : sProp 𝕄)
    = bigSep (todo 1) fun j => iprop(∃ f, slotPts (up c j) j f) := by
  rw [todo_one]; exact rest_cell m ρ c kB
theorem rest_send {j : Fin 32} (h : 1 ≤ j.val) :
    (bigSep ((sched m ρ).duties (sendCell c j) 0 \ ∅) ((sched m ρ).payload (sendCell c j) 0) : sProp 𝕄) = totPts m ρ c (shareAt j) := by
  refine (rest_cell m ρ c (kS j)).trans ?_
  rw [dutySet_send h, bigSep_singleton]; rfl
theorem rest_recv {j : Fin 32} (h : 1 ≤ j.val) :
    (bigSep ((sched m ρ).duties (recvCell c j) 0 \ ∅) ((sched m ρ).payload (recvCell c j) 0) : sProp 𝕄) = slotPts c j (landed m ρ c) := by
  refine (rest_cell m ρ c (kR j)).trans ?_
  rw [dutySet_recv h, bigSep_singleton]; rfl

/-! ## Steps -/

/-- The signal at offset `j`, to the device `j` places before. -/
theorem sig_step {α : Type} {Q : α → sProp 𝕄} {k : PUnit → Prog (TpuEff nD τ sig (Elt F) Λ₀ .tc) α}
    (i : ℕ) (h32 : i < 32) (hj : 1 ≤ i) (n : Dev nD) (hn : n.val = (c.val + (32 - i)) % 32) (w : ℕ) (hw : w = 1) :
    records m ρ K
      ⊢ iprop(SigSt c i -∗ (SigSt c (i + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS w) k) Q) := by
  obtain ⟨j, hij⟩ : ∃ j : Fin 32, j.val = i := ⟨⟨i, h32⟩, rfl⟩
  subst hij hw
  obtain rfl : n = dn c j := Fin.ext hn
  unfold SigSt
  rw [todo_take j, owesB_step c j, ← add_assoc]
  iintro #HR ⟨⟨%W, HO⟩, ⟨Ht, Hs⟩, Hrest⟩ Hk
  iapply (Rounds.wp_signal 𝒱₀ ER (sched m ρ) (c : Thread nD τ) none (dst := (dn c j : Thread nD τ)) (sem := barS) (r := 0) (κ := K (dn c j, kB)) (d := j)
      ((duties_cell m ρ (dn c j) kB).symm ▸ Finset.mem_erase.mpr ⟨pos_ne hj, Finset.mem_univ _⟩)
      (amount_cell m ρ (dn c j) kB j) () (owesR c 1 + owesB c (j.val + 1)) rfl) $$ [HO Ht Hs]
  · isplitr; · iapply (records_inv m ρ K (dn c j, kB)); iexact HR
    isplitl [HO]; · iexact HO
    isplitl [Ht]; · iexact Ht
    isplitl [Hs]
    · iapply (Entails.of_eq ((pay_bar m ρ (dn c j) j).trans (by rw [up_dn])).symm); iexact Hs
    iapply (records_reached m ρ K (dn c j, kB)); iexact HR
  iintro HO
  iapply Hk
  isplitl [HO]; · iexists W; iexact HO
  iexact Hrest

/-- The copy at offset `j`, to slot `j` of the device `j` places after. -/
theorem send_step {α : Type} {Q : α → sProp 𝕄} {k : PUnit → Prog (TpuEff nD τ sig (Elt F) Λ₀ .tc) α}
    (i : ℕ) (h32 : i < 32) (hj : 1 ≤ i) (n : Dev nD) (hn : n.val = (c.val + i) % 32)
    {hsc : (slotM ⟨i, h32⟩ : Memref sig (Dev.tc n : Thread nD τ).2.kind .vmem S1x512 .f32).view.ref.isScScratch = false}
    {hsrc : vM.view.WordExact} {hdst : (slotM ⟨i, h32⟩).view.WordExact}
    {hsem : DmaTarget.Typed .vmem (.dma (recvS ⟨i, h32⟩)) (.remote (Dev.tc n : Thread nD τ) (slotM ⟨i, h32⟩ : Memref sig .tc .vmem S1x512 .f32) (.dma (sendS ⟨i, h32⟩)) hsc)} :
    records m ρ K
      ⊢ iprop(SendSt m ρ c i -∗ (SendSt m ρ c (i + 1) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma vM (.remote (Dev.tc n : Thread nD τ) (slotM ⟨i, h32⟩) (.dma (sendS ⟨i, h32⟩)) hsc) (.dma (recvS ⟨i, h32⟩)) hsrc hdst hsem) k) Q) := by
  obtain ⟨j, hij⟩ : ∃ j : Fin 32, j.val = i := ⟨⟨i, h32⟩, rfl⟩
  subst hij
  obtain rfl : n = up c j := Fin.ext hn
  unfold SendSt
  rw [todo_take j, owesR_step c j, done_put j hj]
  iintro #HR ⟨⟨%W, HO⟩, ⟨⟨⟨%fd, Hs⟩, HtS, HtR, Hv⟩, Hrest⟩, Hdone⟩ Hk
  have hv : totPts m ρ c (shareAt j) = (vM.view.loc (c : Thread nD τ) ↦[vM.view.set]{shareAt j} total m ρ c : sProp 𝕄) := by
    unfold totPts; rw [View.set_whole]
  ihave Hv' := (Entails.of_eq hv) $$ Hv
  iapply (Rounds.wp_send_pointsTo 𝒱₀ ER (sched m ρ) (c : Thread nD τ) none (c' := (up c j : Thread nD τ)) (src := vM) (dst := slotM j)
      (sS := .dma (sendS j)) (sem := .dma (recvS j)) (κ₁ := K (c, kS j)) (κ₂ := K (up c j, kR j))
      (r₁ := 0) (r₂ := 0) (d₁ := j) (d₂ := j) (q := shareAt j) (fs := total m ρ c) (fd := fd)
      ((duties_cell m ρ c (kS j)).symm ▸ (dutySet_send hj).symm ▸ Finset.mem_singleton_self _)
      ((duties_cell m ρ (up c j) (kR j)).symm ▸ (dutySet_recv hj).symm ▸ Finset.mem_singleton_self _)
      () () N rfl (amount_cell m ρ c (kS j) j) (amount_cell m ρ (up c j) (kR j) j) (owesR c (j.val + 1)) rfl (W := W)
      (Entails.of_eq (hv.symm.trans (payload_cell m ρ c (kS j) j).symm))
      (Entails.of_eq ((pointsTo_congr (landed_write m ρ c j fd)).trans (payload_cell m ρ (up c j) (kR j) j).symm)))
    $$ [HO HtS HtR Hs Hv']
  · isplitr; · iapply (records_inv m ρ K (c, kS j)); iexact HR
    isplitr; · iapply (records_inv m ρ K (up c j, kR j)); iexact HR
    isplitl [Hv']; · iexact Hv'
    isplitl [Hs]; · unfold slotPts; iexact Hs
    isplitl [HO]; · iexact HO
    isplitl [HtS]; · iexact HtS
    isplitr; · iapply (records_reached m ρ K (c, kS j)); iexact HR
    isplitl [HtR]; · iexact HtR
    iapply (records_reached m ρ K (up c j, kR j)); iexact HR
  iintro ⟨Hc, HO⟩
  iapply Hk
  isplitl [HO]; · iexists W; iexact HO
  isplitl [Hrest]; · iexact Hrest
  isplitl [Hc]; · iexact Hc
  iexact Hdone

/-- The wait for the copy sent at offset `j`. -/
theorem wait_send_step {α : Type} {Q : α → sProp 𝕄} {k : PUnit → Prog (TpuEff nD τ sig (Elt F) Λ₀ .tc) α}
    (i : ℕ) (h32 : i < 32) (hj : 1 ≤ i) {h1 : (slotM ⟨i, h32⟩).view.WordExact} {h2 : vM.view.WordExact} :
    records m ρ K
      ⊢ iprop(idle c -∗ WS m ρ c i -∗ (idle c -∗ WS m ρ c (i + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sendS ⟨i, h32⟩) (slotM ⟨i, h32⟩) vM h1 h2) k) Q) := by
  obtain ⟨j, hij⟩ : ∃ j : Fin 32, j.val = i := ⟨⟨i, h32⟩, rfl⟩
  subst hij
  unfold idle WS
  rw [todo_take j, done_put j hj]
  iintro #HR ⟨%W, HO⟩ ⟨⟨⟨Hc, Hat⟩, Hrest⟩, Hdone⟩ Hk
  iapply (Rounds.wp_wait_rest_token 𝒱₀ ER (sched m ρ) (c : Thread nD τ) none (κ := K (c, kS j))
      (wpE_waitDma2_eq 𝒱₀ (c : Thread nD τ) none Set.univ) (Set.mem_univ _) () (O := 0) (W := W) (R := 0) (m := 0) (T := ∅)
      ((Nat.zero_add _).trans ((expect_cell m ρ c (kS j)).trans (by rw [dutySet_send hj, Finset.card_singleton, Nat.one_mul]; rfl)).symm)) $$ [Hc HO Hat]
  · isplitr; · iapply (records_inv m ρ K (c, kS j)); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c hj)) $$ Hpay
  imod (Rounds.cell_close ER (sched m ρ) (Set.mem_univ (K (c, kS j))) (fun h => h) (R := 0 + 1) (duties_later m ρ (sendCell c j))) $$ [Hat] with Hz
  · isplitr; · iapply (records_inv m ρ K (c, kS j)); iexact HR
    iexact Hat
  iapply Hk $$ [HO]
  · iexists _; iexact HO
  isplitl [Hrest]; · iexact Hrest
  isplitl [Hz Hp]
  · isplitl [Hz]; · iexact Hz
    iexact Hp
  iexact Hdone

/-- The wait for the copy arriving at offset `j`. -/
theorem wait_recv_step {α : Type} {Q : α → sProp 𝕄} {k : PUnit → Prog (TpuEff nD τ sig (Elt F) Λ₀ .tc) α}
    (i : ℕ) (h32 : i < 32) (hj : 1 ≤ i) {h1 : vM.view.WordExact} {h2 : (slotM ⟨i, h32⟩).view.WordExact} :
    records m ρ K
      ⊢ iprop(idle c -∗ WR m ρ c i -∗ (idle c -∗ WR m ρ c (i + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (recvS ⟨i, h32⟩) vM (slotM ⟨i, h32⟩) h1 h2) k) Q) := by
  obtain ⟨j, hij⟩ : ∃ j : Fin 32, j.val = i := ⟨⟨i, h32⟩, rfl⟩
  subst hij
  unfold idle WR
  rw [todo_take j, done_put j hj]
  iintro #HR ⟨%W, HO⟩ ⟨⟨⟨Hc, Hat⟩, Hrest⟩, Hdone⟩ Hk
  iapply (Rounds.wp_wait_rest_token 𝒱₀ ER (sched m ρ) (c : Thread nD τ) none (κ := K (c, kR j))
      (wpE_waitDma2_eq 𝒱₀ (c : Thread nD τ) none Set.univ) (Set.mem_univ _) () (O := 0) (W := W) (R := 0) (m := 0) (T := ∅)
      ((Nat.zero_add _).trans ((expect_cell m ρ c (kR j)).trans (by rw [dutySet_recv hj, Finset.card_singleton, Nat.one_mul]; rfl)).symm)) $$ [Hc HO Hat]
  · isplitr; · iapply (records_inv m ρ K (c, kR j)); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c hj)) $$ Hpay
  imod (Rounds.cell_close ER (sched m ρ) (Set.mem_univ (K (c, kR j))) (fun h => h) (R := 0 + 1) (duties_later m ρ (recvCell c j))) $$ [Hat] with Hz
  · isplitr; · iapply (records_inv m ρ K (c, kR j)); iexact HR
    iexact Hat
  iapply Hk $$ [HO]
  · iexists _; iexact HO
  isplitl [Hrest]; · iexact Hrest
  isplitl [Hz Hp]
  · isplitl [Hz]; · iexact Hz
    iexact Hp
  iexact Hdone

/-- The wait on the barrier: every signal sent, the slots of all other devices come in. -/
theorem wait_bar_step {α : Type} {Q : α → sProp 𝕄} {k : PUnit → Prog (TpuEff nD τ sig (Elt F) Λ₀ .tc) α}
    (w : ℕ) (hw : w = 31) :
    records m ρ K
      ⊢ iprop(levAts L lv -∗ SigSt c 32 -∗ cred (tallyAt (barCell c) () 31) -∗ atPos ER (barCell c) 0 ∅ 0
        -∗ ((∃ W, owes (c : Thread nD τ) (owesR c 1) W) -∗ semVal (barCell c) 0 -∗ (bigSep (todo 1) fun j => iprop(∃ f, slotPts (up c j) j f))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS w) k) Q) := by
  subst hw
  unfold SigSt
  rw [todo_end, owesB_end, add_zero]
  iintro #HR #Hlev ⟨⟨%W, HO⟩, -⟩ Hc Hat Hk
  iapply (Rounds.wp_wait_rest_token 𝒱₀ ER (sched m ρ) (c : Thread nD τ) none (κ := K (c, kB))
      (wpE_semWait_eq 𝒱₀ (c : Thread nD τ) none Set.univ) (Set.mem_univ _) () (O := owesR c 1) (W := W) (R := 0) (m := 0) (T := ∅)
      ((Nat.zero_add _).trans ((expect_cell m ρ c kB).trans (by decide)).symm)) $$ [Hc HO Hat]
  · isplitr; · iapply (records_inv m ρ K (c, kB)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (sched m ρ) (Set.mem_univ (K (c, kB))) (fun h => h) (R := 0 + 1) (duties_later m ρ (barCell c))) $$ [Hat] with Hz
  · isplitr; · iapply (records_inv m ρ K (c, kB)); iexact HR
    iexact Hat
  iapply Hk $$ [HO] Hz Hp
  iexists _; iexact HO

end Cert.Cumprod

end
-- ==== Proof.Signals.lean ====
/-
The first stretch of a device's run: it learns which device it is, then signals the barrier of every other device.
-/
module

public import proofs.«01_k».proof.Proof.Steps

@[expose] public section

set_option maxRecDepth 16384

noncomputable section

namespace Cert.Cumprod

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

/-- A piece of the body at the buffers and semaphores the launch gives it. -/
abbrev onM {β : Type 1}
    (p : (a0 : Memref sig .tc .vmem S1024x512 .bf16) → a0.IsWhole → (a1 : Memref sig .tc .vmem S1024x512 .bf16) → a1.IsWhole
      → (a2 : Memref sig .tc .vmem S1024x512 .f32) → a2.IsWhole → (a3 : Memref sig .tc .vmem S1x512 .f32) → a3.IsWhole
      → (a4 : Memref sig .tc .vmem S32x1x512 .f32) → a4.IsWhole → DmaSems sig S32 → DmaSems sig S32 → β) : β :=
  p xM (Memref.isWhole_whole _) oM (Memref.isWhole_whole _) aM (Memref.isWhole_whole _) vM (Memref.isWhole_whole _)
    cM (Memref.isWhole_whole _) cc0_scratch3 cc0_scratch4

/-- The word the body computes for the device's own number. -/
abbrev myWord (c : Dev nD) : BitVec 32 := Scalar.remsi (Scalar.divsi (Dev.word c) 1#32) 32#32

/-- The barrier semaphore as the body names it. -/
abbrev barArr : Sems sig S_ := SemArray.scalar (sig.barrier 0 rfl)

/-- The first piece: the device's own number, and the signals at offsets 1 to 4. -/
theorem part1_run {Q : (Σ' (d0 : Dev nD) (v2 : BitVec 32) (v3 : Sems sig S_) (v25 : BitVec 32), BitVec 32) → sProp 𝕄} :
    records m ρ K ⊢ iprop(SigSt c 1 -∗ (∀ a b, SigSt c 5 -∗ Q ⟨c, myWord c, barArr, a, b⟩)
      -∗ wp frame (wpE (defs₀ (F := F)) 𝒱₀ (c : Thread nD τ) none) Set.univ (onM (k0_part1 (F := F))) Q) := by
  rw [k0_part1_eq_skeleton]; unfold onM k0_part1_skel
  simp only [semSignalWord, Prog.lift, Prog.bind_op, Prog.bind_ret, Prog.pure_eq_ret, wp_deviceId]
  iintro #HR HS Hk
  iapply (sig_step m ρ K c 1 (by decide) (by decide) ⟨k0_dev1 c, k0_dev1_lt c⟩ (k0_dev1_eq c) _ rfl) $$ HR HS; iintro HS
  iapply (sig_step m ρ K c 2 (by decide) (by decide) ⟨k0_dev2 c, k0_dev2_lt c⟩ (k0_dev2_eq c) _ rfl) $$ HR HS; iintro HS
  iapply (sig_step m ρ K c 3 (by decide) (by decide) ⟨k0_dev3 c, k0_dev3_lt c⟩ (k0_dev3_eq c) _ rfl) $$ HR HS; iintro HS
  iapply (sig_step m ρ K c 4 (by decide) (by decide) ⟨k0_dev4 c, k0_dev4_lt c⟩ (k0_dev4_eq c) _ rfl) $$ HR HS; iintro HS
  rw [wp_ret]; imodintro; iapply Hk $$ HS

/-- The signals at offsets 5 to 9. -/
theorem part2_run (v2 a b : BitVec 32) {Q : (Σ' (v : BitVec 32), BitVec 32) → sProp 𝕄} :
    records m ρ K ⊢ iprop(SigSt c 5 -∗ (∀ r, SigSt c 10 -∗ Q r)
      -∗ wp frame (wpE (defs₀ (F := F)) 𝒱₀ (c : Thread nD τ) none) Set.univ (onM (k0_part2 (F := F)) c v2 barArr a b) Q) := by
  rw [k0_part2_eq_skeleton]; unfold onM k0_part2_skel
  simp only [semSignalWord, Prog.lift, Prog.bind_op, Prog.bind_ret, Prog.pure_eq_ret]
  iintro #HR HS Hk
  iapply (sig_step m ρ K c 5 (by decide) (by decide) ⟨k0_dev5 c, k0_dev5_lt c⟩ (k0_dev5_eq c) _ rfl) $$ HR HS; iintro HS
  iapply (sig_step m ρ K c 6 (by decide) (by decide) ⟨k0_dev6 c, k0_dev6_lt c⟩ (k0_dev6_eq c) _ rfl) $$ HR HS; iintro HS
  iapply (sig_step m ρ K c 7 (by decide) (by decide) ⟨k0_dev7 c, k0_dev7_lt c⟩ (k0_dev7_eq c) _ rfl) $$ HR HS; iintro HS
  iapply (sig_step m ρ K c 8 (by decide) (by decide) ⟨k0_dev8 c, k0_dev8_lt c⟩ (k0_dev8_eq c) _ rfl) $$ HR HS; iintro HS
  iapply (sig_step m ρ K c 9 (by decide) (by decide) ⟨k0_dev9 c, k0_dev9_lt c⟩ (k0_dev9_eq c) _ rfl) $$ HR HS; iintro HS
  rw [wp_ret]; imodintro; iapply Hk $$ HS

/-- The signals at offsets 10 to 14. -/
theorem part3_run (v2 a b : BitVec 32) {Q : (Σ' (v : BitVec 32), BitVec 32) → sProp 𝕄} :
    records m ρ K ⊢ iprop(SigSt c 10 -∗ (∀ r, SigSt c 15 -∗ Q r)
      -∗ wp frame (wpE (defs₀ (F := F)) 𝒱₀ (c : Thread nD τ) none) Set.univ (onM (k0_part3 (F := F)) c v2 barArr a b) Q) := by
  rw [k0_part3_eq_skeleton]; unfold onM k0_part3_skel
  simp only [semSignalWord, Prog.lift, Prog.bind_op, Prog.bind_ret, Prog.pure_eq_ret]
  iintro #HR HS Hk
  iapply (sig_step m ρ K c 10 (by decide) (by decide) ⟨k0_dev10 c, k0_dev10_lt c⟩ (k0_dev10_eq c) _ rfl) $$ HR HS; iintro HS
  iapply (sig_step m ρ K c 11 (by decide) (by decide) ⟨k0_dev11 c, k0_dev11_lt c⟩ (k0_dev11_eq c) _ rfl) $$ HR HS; iintro HS
  iapply (sig_step m ρ K c 12 (by decide) (by decide) ⟨k0_dev12 c, k0_dev12_lt c⟩ (k0_dev12_eq c) _ rfl) $$ HR HS; iintro HS
  iapply (sig_step m ρ K c 13 (by decide) (by decide) ⟨k0_dev13 c, k0_dev13_lt c⟩ (k0_dev13_eq c) _ rfl) $$ HR HS; iintro HS
  iapply (sig_step m ρ K c 14 (by decide) (by decide) ⟨k0_dev14 c, k0_dev14_lt c⟩ (k0_dev14_eq c) _ rfl) $$ HR HS; iintro HS
  rw [wp_ret]; imodintro; iapply Hk $$ HS

/-- The signals at offsets 15 to 19. -/
theorem part4_run (v2 a b : BitVec 32) {Q : (Σ' (v : BitVec 32), BitVec 32) → sProp 𝕄} :
    records m ρ K ⊢ iprop(SigSt c 15 -∗ (∀ r, SigSt c 20 -∗ Q r)
      -∗ wp frame (wpE (defs₀ (F := F)) 𝒱₀ (c : Thread nD τ) none) Set.univ (onM (k0_part4 (F := F)) c v2 barArr a b) Q) := by
  rw [k0_part4_eq_skeleton]; unfold onM k0_part4_skel
  simp only [semSignalWord, Prog.lift, Prog.bind_op, Prog.bind_ret, Prog.pure_eq_ret]
  iintro #HR HS Hk
  iapply (sig_step m ρ K c 15 (by decide) (by decide) ⟨k0_dev15 c, k0_dev15_lt c⟩ (k0_dev15_eq c) _ rfl) $$ HR HS; iintro HS
  iapply (sig_step m ρ K c 16 (by decide) (by decide) ⟨k0_dev16 c, k0_dev16_lt c⟩ (k0_dev16_eq c) _ rfl) $$ HR HS; iintro HS
  iapply (sig_step m ρ K c 17 (by decide) (by decide) ⟨k0_dev17 c, k0_dev17_lt c⟩ (k0_dev17_eq c) _ rfl) $$ HR HS; iintro HS
  iapply (sig_step m ρ K c 18 (by decide) (by decide) ⟨k0_dev18 c, k0_dev18_lt c⟩ (k0_dev18_eq c) _ rfl) $$ HR HS; iintro HS
  iapply (sig_step m ρ K c 19 (by decide) (by decide) ⟨k0_dev19 c, k0_dev19_lt c⟩ (k0_dev19_eq c) _ rfl) $$ HR HS; iintro HS
  rw [wp_ret]; imodintro; iapply Hk $$ HS

/-- The signals at offsets 20 to 24. -/
theorem part5_run (v2 a b : BitVec 32) {Q : (Σ' (v : BitVec 32), BitVec 32) → sProp 𝕄} :
    records m ρ K ⊢ iprop(SigSt c 20 -∗ (∀ r, SigSt c 25 -∗ Q r)
      -∗ wp frame (wpE (defs₀ (F := F)) 𝒱₀ (c : Thread nD τ) none) Set.univ (onM (k0_part5 (F := F)) c v2 barArr a b) Q) := by
  rw [k0_part5_eq_skeleton]; unfold onM k0_part5_skel
  simp only [semSignalWord, Prog.lift, Prog.bind_op, Prog.bind_ret, Prog.pure_eq_ret]
  iintro #HR HS Hk
  iapply (sig_step m ρ K c 20 (by decide) (by decide) ⟨k0_dev20 c, k0_dev20_lt c⟩ (k0_dev20_eq c) _ rfl) $$ HR HS; iintro HS
  iapply (sig_step m ρ K c 21 (by decide) (by decide) ⟨k0_dev21 c, k0_dev21_lt c⟩ (k0_dev21_eq c) _ rfl) $$ HR HS; iintro HS
  iapply (sig_step m ρ K c 22 (by decide) (by decide) ⟨k0_dev22 c, k0_dev22_lt c⟩ (k0_dev22_eq c) _ rfl) $$ HR HS; iintro HS
  iapply (sig_step m ρ K c 23 (by decide) (by decide) ⟨k0_dev23 c, k0_dev23_lt c⟩ (k0_dev23_eq c) _ rfl) $$ HR HS; iintro HS
  iapply (sig_step m ρ K c 24 (by decide) (by decide) ⟨k0_dev24 c, k0_dev24_lt c⟩ (k0_dev24_eq c) _ rfl) $$ HR HS; iintro HS
  rw [wp_ret]; imodintro; iapply Hk $$ HS

/-- The signals at offsets 25 to 29. -/
theorem part6_run (v2 a b : BitVec 32) {Q : (Σ' (v : BitVec 32), BitVec 32) → sProp 𝕄} :
    records m ρ K ⊢ iprop(SigSt c 25 -∗ (∀ r, SigSt c 30 -∗ Q r)
      -∗ wp frame (wpE (defs₀ (F := F)) 𝒱₀ (c : Thread nD τ) none) Set.univ (onM (k0_part6 (F := F)) c v2 barArr a b) Q) := by
  rw [k0_part6_eq_skeleton]; unfold onM k0_part6_skel
  simp only [semSignalWord, Prog.lift, Prog.bind_op, Prog.bind_ret, Prog.pure_eq_ret]
  iintro #HR HS Hk
  iapply (sig_step m ρ K c 25 (by decide) (by decide) ⟨k0_dev25 c, k0_dev25_lt c⟩ (k0_dev25_eq c) _ rfl) $$ HR HS; iintro HS
  iapply (sig_step m ρ K c 26 (by decide) (by decide) ⟨k0_dev26 c, k0_dev26_lt c⟩ (k0_dev26_eq c) _ rfl) $$ HR HS; iintro HS
  iapply (sig_step m ρ K c 27 (by decide) (by decide) ⟨k0_dev27 c, k0_dev27_lt c⟩ (k0_dev27_eq c) _ rfl) $$ HR HS; iintro HS
  iapply (sig_step m ρ K c 28 (by decide) (by decide) ⟨k0_dev28 c, k0_dev28_lt c⟩ (k0_dev28_eq c) _ rfl) $$ HR HS; iintro HS
  iapply (sig_step m ρ K c 29 (by decide) (by decide) ⟨k0_dev29 c, k0_dev29_lt c⟩ (k0_dev29_eq c) _ rfl) $$ HR HS; iintro HS
  rw [wp_ret]; imodintro; iapply Hk $$ HS

end Cert.Cumprod

end
-- ==== Proof.Scan.lean ====
/-
The second stretch: the device's own rows. It widens them, takes the product of all of them, and turns the buffer of rows
into the running product of its rows, in ten steps of doubling distance.
-/
module

public import proofs.«01_k».proof.Proof.Signals

@[expose] public section

set_option maxRecDepth 16384

noncomputable section

namespace Cert.Cumprod

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

abbrev xPts (f : xM.view.ref.ty.Contents (Elt F)) : sProp 𝕄 := iprop(xM.view.loc (c : Thread nD τ) ↦{fullShare} f)
abbrev oPts (f : oM.view.ref.ty.Contents (Elt F)) : sProp 𝕄 := iprop(oM.view.loc (c : Thread nD τ) ↦{fullShare} f)
abbrev aPts (f : aM.view.ref.ty.Contents (Elt F)) : sProp 𝕄 := iprop(aM.view.loc (c : Thread nD τ) ↦{fullShare} f)
abbrev vPts (f : vM.view.ref.ty.Contents (Elt F)) : sProp 𝕄 := iprop(vM.view.loc (c : Thread nD τ) ↦{fullShare} f)
abbrev cPts (f : cM.view.ref.ty.Contents (Elt F)) : sProp 𝕄 := iprop(cM.view.loc (c : Thread nD τ) ↦{fullShare} f)

/-- The contents after one step: the rows of `hi` replaced by `op` of the rows of `lo` and those of `hi`. -/
def scanWith (lo hi : Rect S1024x512) (op : (lo.shape.Idx → Elt F .f32) → (hi.shape.Idx → Elt F .f32) → hi.shape.Idx → Elt F .f32)
    (f : S1024x512.Idx → F .f32) : S1024x512.Idx → F .f32 :=
  (aM.access hi : View sig .tc _ _ _).write (Elt F) f
    (op (aM.view.readAt (Elt F) lo.toLoadRect f) (aM.view.readAt (Elt F) hi.toLoadRect f)) Finset.univ

theorem hz3 : (![0, 0, 0] : Fin 3 → ℕ) = fun _ => 0 := by decide
theorem hz2 : (![0, 0] : Fin 2 → ℕ) = fun _ => 0 := by decide
/-- Reading or writing a whole buffer through a rectangle that covers it. -/
theorem read_x (h) (f : S1024x512.Idx → Elt F .bf16) :
    xM.view.readAt (Elt F) (Rect.unit (s := S1024x512) ![0, 0] ![1024, 512] h).toLoadRect f = f := Memref.readAt_unit_zero (Elt F) cc0_stg0_0 hz2 _ f
theorem read_o (h) (f : S1024x512.Idx → Elt F .bf16) :
    oM.view.readAt (Elt F) (Rect.unit (s := S1024x512) ![0, 0] ![1024, 512] h).toLoadRect f = f := Memref.readAt_unit_zero (Elt F) cc0_stg1_0 hz2 _ f
theorem read_a (h) (f : S1024x512.Idx → Elt F .f32) :
    aM.view.readAt (Elt F) (Rect.unit (s := S1024x512) ![0, 0] ![1024, 512] h).toLoadRect f = f := Memref.readAt_unit_zero (Elt F) cc0_scratch0 hz2 _ f
theorem read_c (h) (f : S32x1x512.Idx → Elt F .f32) :
    cM.view.readAt (Elt F) (Rect.unit (s := S32x1x512) ![0, 0, 0] ![32, 1, 512] h).toLoadRect f = f := Memref.readAt_unit_zero (Elt F) cc0_scratch2 hz3 _ f
abbrev r2 : Rect S1024x512 := Rect.unit (s := S1024x512) ![0, 0] S1024x512.size inb_S1024x512_S1024x512_0_0
abbrev r1 : Rect S1x512 := Rect.unit (s := S1x512) ![0, 0] S1x512.size inb_S1x512_S1x512_0_0
theorem write_a (f w : S1024x512.Idx → Elt F .f32) : (aM.access r2 : View sig .tc _ _ _).write (Elt F) f w Finset.univ = w :=
  Memref.write_access_unit_zero_univ (Elt F) cc0_scratch0 hz2 _ f w
theorem write_o (f w : S1024x512.Idx → Elt F .bf16) : (oM.access r2 : View sig .tc _ _ _).write (Elt F) f w Finset.univ = w :=
  Memref.write_access_unit_zero_univ (Elt F) cc0_stg1_0 hz2 _ f w
theorem write_v (f w : S1x512.Idx → Elt F .f32) : (vM.access r1 : View sig .tc _ _ _).write (Elt F) f w Finset.univ = w :=
  Memref.write_access_unit_zero_univ (Elt F) cc0_scratch1 hz2 _ f w

/-- One step at distance 1. -/
def scan1 (f : S1024x512.Idx → F .f32) : S1024x512.Idx → F .f32 :=
  scanWith (Rect.unit (s := S1024x512) ![0, 0] S1023x512.size inb_S1024x512_S1023x512_0_0)
    (Rect.unit (s := S1024x512) ![1, 0] S1023x512.size inb_S1024x512_S1023x512_1_0) (k0_pay5 (F := F)) f
/-- One step at distance 2. -/
def scan2 (f : S1024x512.Idx → F .f32) : S1024x512.Idx → F .f32 :=
  scanWith (Rect.unit (s := S1024x512) ![0, 0] S1022x512.size inb_S1024x512_S1022x512_0_0)
    (Rect.unit (s := S1024x512) ![2, 0] S1022x512.size inb_S1024x512_S1022x512_2_0) (k0_pay6 (F := F)) f
/-- One step at distance 4. -/
def scan4 (f : S1024x512.Idx → F .f32) : S1024x512.Idx → F .f32 :=
  scanWith (Rect.unit (s := S1024x512) ![0, 0] S1020x512.size inb_S1024x512_S1020x512_0_0)
    (Rect.unit (s := S1024x512) ![4, 0] S1020x512.size inb_S1024x512_S1020x512_4_0) (k0_pay7 (F := F)) f
/-- One step at distance 8. -/
def scan8 (f : S1024x512.Idx → F .f32) : S1024x512.Idx → F .f32 :=
  scanWith (Rect.unit (s := S1024x512) ![0, 0] S1016x512.size inb_S1024x512_S1016x512_0_0)
    (Rect.unit (s := S1024x512) ![8, 0] S1016x512.size inb_S1024x512_S1016x512_8_0) (k0_pay8 (F := F)) f
/-- One step at distance 16. -/
def scan16 (f : S1024x512.Idx → F .f32) : S1024x512.Idx → F .f32 :=
  scanWith (Rect.unit (s := S1024x512) ![0, 0] S1008x512.size inb_S1024x512_S1008x512_0_0)
    (Rect.unit (s := S1024x512) ![16, 0] S1008x512.size inb_S1024x512_S1008x512_16_0) (k0_pay9 (F := F)) f
/-- One step at distance 32. -/
def scan32 (f : S1024x512.Idx → F .f32) : S1024x512.Idx → F .f32 :=
  scanWith (Rect.unit (s := S1024x512) ![0, 0] S992x512.size inb_S1024x512_S992x512_0_0)
    (Rect.unit (s := S1024x512) ![32, 0] S992x512.size inb_S1024x512_S992x512_32_0) (k0_pay10 (F := F)) f
/-- One step at distance 64. -/
def scan64 (f : S1024x512.Idx → F .f32) : S1024x512.Idx → F .f32 :=
  scanWith (Rect.unit (s := S1024x512) ![0, 0] S960x512.size inb_S1024x512_S960x512_0_0)
    (Rect.unit (s := S1024x512) ![64, 0] S960x512.size inb_S1024x512_S960x512_64_0) (k0_pay11 (F := F)) f
/-- One step at distance 128. -/
def scan128 (f : S1024x512.Idx → F .f32) : S1024x512.Idx → F .f32 :=
  scanWith (Rect.unit (s := S1024x512) ![0, 0] S896x512.size inb_S1024x512_S896x512_0_0)
    (Rect.unit (s := S1024x512) ![128, 0] S896x512.size inb_S1024x512_S896x512_128_0) (k0_pay12 (F := F)) f
/-- One step at distance 256. -/
def scan256 (f : S1024x512.Idx → F .f32) : S1024x512.Idx → F .f32 :=
  scanWith (Rect.unit (s := S1024x512) ![0, 0] S768x512.size inb_S1024x512_S768x512_0_0)
    (Rect.unit (s := S1024x512) ![256, 0] S768x512.size inb_S1024x512_S768x512_256_0) (fun a b => k0_pay14 (k0_pay13 (F := F) a b)) f
/-- One step at distance 512. -/
def scan512 (f : S1024x512.Idx → F .f32) : S1024x512.Idx → F .f32 :=
  scanWith (Rect.unit (s := S1024x512) ![0, 0] S512x512.size inb_S1024x512_S512x512_0_0)
    (Rect.unit (s := S1024x512) ![512, 0] S512x512.size inb_S1024x512_S512x512_512_0) (k0_pay15 (F := F)) f

/-- The rows after the first eight steps. -/
def scanned8 (f : S1024x512.Idx → F .f32) : S1024x512.Idx → F .f32 :=
  scan128 (scan64 (scan32 (scan16 (scan8 (scan4 (scan2 (scan1 f)))))))
/-- The rows after all ten steps. -/
def scanned (f : S1024x512.Idx → F .f32) : S1024x512.Idx → F .f32 := scan512 (scan256 (scanned8 f))

/-- One step as the body makes it: the rows below, the rows above twice, the product stored over the rows above. -/
theorem scan_step {α : Type} {Q : α → sProp 𝕄} {k : PUnit → Prog (TpuEff nD τ sig (Elt F) Λ₀ .tc) α}
    (lo hi : Rect S1024x512) (op : (lo.shape.Idx → Elt F .f32) → (hi.shape.Idx → Elt F .f32) → hi.shape.Idx → Elt F .f32)
    (f g : S1024x512.Idx → F .f32) (hg : g = scanWith lo hi op f) {h1 : aM.view.LoadsAt lo.toLoadRect} {h2 h3 : aM.view.LoadsAt hi.toLoadRect}
    {h4 : (aM.access hi).Stores Finset.univ} {h5 : (Finset.univ : Finset hi.shape.Idx) = Finset.univ ∨ ∀ a, hi.stride a = 1} :
    aPts c f ⊢ iprop((aPts c g -∗ wp frame (wpE (defs₀ (F := F)) 𝒱₀ (c : Thread nD τ) none) Set.univ (k ⟨⟩) Q)
      -∗ wp frame (wpE (defs₀ (F := F)) 𝒱₀ (c : Thread nD τ) none) Set.univ
        (.op (.load aM lo.toLoadRect h1) fun a => .op (.load aM hi.toLoadRect h2) fun b => .op (.load aM hi.toLoadRect h3) fun _ =>
          .op (.store aM hi (op a b) Finset.univ h4 h5) k) Q) := by
  subst hg; unfold scanWith
  iintro Ha Hk
  iapply (wp_load 𝒱₀ (c : Thread nD τ) none Set.univ (m := aM) (Finset.subset_univ _)) $$ Ha; iintro Ha
  iapply (wp_load 𝒱₀ (c : Thread nD τ) none Set.univ (m := aM) (Finset.subset_univ _)) $$ Ha; iintro Ha
  iapply (wp_load 𝒱₀ (c : Thread nD τ) none Set.univ (m := aM) (Finset.subset_univ _)) $$ Ha; iintro Ha
  iapply (wp_store 𝒱₀ (c : Thread nD τ) none Set.univ (m := aM) (r := hi) (Mk := Finset.univ) (Finset.subset_univ _)) $$ Ha; iintro Ha
  iapply Hk $$ Ha

/-- The last two signals; then the rows are widened into the buffer of rows, and their product is taken. -/
theorem part7_run (v2 a b : BitVec 32) (x : S1024x512.Idx → F .bf16) (f : S1024x512.Idx → F .f32) {Q : FVec F S1x512 .f32 → sProp 𝕄} :
    records m ρ K ⊢ iprop(SigSt c 30 -∗ xPts c x -∗ aPts c f -∗ (SigSt c 32 -∗ xPts c x -∗ aPts c (k0_pay2 x) -∗ Q (k0_pay3 x))
      -∗ wp frame (wpE (defs₀ (F := F)) 𝒱₀ (c : Thread nD τ) none) Set.univ (onM (k0_part7 (F := F)) c v2 barArr a b) Q) := by
  rw [k0_part7_eq_skeleton]; unfold onM k0_part7_skel
  simp only [semSignalWord, Prog.lift, Prog.bind_op, Prog.bind_ret, Prog.pure_eq_ret]
  iintro #HR HS Hx Ha Hk
  iapply (sig_step m ρ K c 30 (by decide) (by decide) ⟨k0_dev30 c, k0_dev30_lt c⟩ (k0_dev30_eq c) _ rfl) $$ HR HS; iintro HS
  iapply (sig_step m ρ K c 31 (by decide) (by decide) ⟨k0_dev31 c, k0_dev31_lt c⟩ (k0_dev31_eq c) _ rfl) $$ HR HS; iintro HS
  iapply (wp_load 𝒱₀ (c : Thread nD τ) none Set.univ (m := xM) (Finset.subset_univ _)) $$ Hx; iintro Hx
  rw [read_x]
  iapply (wp_load 𝒱₀ (c : Thread nD τ) none Set.univ (m := aM) (Finset.subset_univ _)) $$ Ha; iintro Ha
  iapply (wp_store 𝒱₀ (c : Thread nD τ) none Set.univ (m := aM) (r := r2) (Mk := Finset.univ) (Finset.subset_univ _)) $$ Ha; iintro Ha
  rw [write_a]
  rw [wp_ret]; imodintro; iapply Hk $$ HS Hx Ha

/-- The product of the rows is stored; the first four steps. -/
theorem part8_run (t : FVec F S1x512 .f32) (g : S1x512.Idx → F .f32) (f : S1024x512.Idx → F .f32) {Q : PUnit → sProp 𝕄} :
    vPts c g ⊢ iprop(aPts c f -∗ (vPts c (k0_pay4 t) -∗ aPts c (scan8 (scan4 (scan2 (scan1 f)))) -∗ Q ⟨⟩)
      -∗ wp frame (wpE (defs₀ (F := F)) 𝒱₀ (c : Thread nD τ) none) Set.univ (onM (k0_part8 (F := F)) t) Q) := by
  rw [k0_part8_eq_skeleton]; unfold onM k0_part8_skel
  simp only [Prog.lift, Prog.bind_op, Prog.bind_ret, Prog.pure_eq_ret]
  iintro Hv Ha Hk
  iapply (wp_load 𝒱₀ (c : Thread nD τ) none Set.univ (m := vM) (Finset.subset_univ _)) $$ Hv; iintro Hv
  iapply (wp_store 𝒱₀ (c : Thread nD τ) none Set.univ (m := vM) (r := r1) (Mk := Finset.univ) (Finset.subset_univ _)) $$ Hv; iintro Hv
  rw [write_v]
  iapply (scan_step c _ _ _ f (scan1 f) rfl) $$ Ha; iintro Ha
  iapply (scan_step c _ _ _ (scan1 f) (scan2 (scan1 f)) rfl) $$ Ha; iintro Ha
  iapply (scan_step c _ _ _ (scan2 (scan1 f)) (scan4 (scan2 (scan1 f))) rfl) $$ Ha; iintro Ha
  iapply (scan_step c _ _ _ (scan4 (scan2 (scan1 f))) (scan8 (scan4 (scan2 (scan1 f)))) rfl) $$ Ha; iintro Ha
  rw [wp_ret]; imodintro; iapply Hk $$ Hv Ha

/-- Four more steps, and the reads and the product of the ninth. -/
theorem part9_run (f : S1024x512.Idx → F .f32) {Q : (Σ' (v248 : FVec F S768x512 .f32), Vec F S768x512 .f32) → sProp 𝕄} :
    aPts c f ⊢ iprop((∀ b, aPts c (scan128 (scan64 (scan32 (scan16 f))))
          -∗ Q ⟨k0_pay13 (aM.view.readAt (Elt F) (Rect.unit (s := S1024x512) ![0, 0] S768x512.size inb_S1024x512_S768x512_0_0).toLoadRect (scan128 (scan64 (scan32 (scan16 f)))))
              (aM.view.readAt (Elt F) (Rect.unit (s := S1024x512) ![256, 0] S768x512.size inb_S1024x512_S768x512_256_0).toLoadRect (scan128 (scan64 (scan32 (scan16 f))))), b⟩)
      -∗ wp frame (wpE (defs₀ (F := F)) 𝒱₀ (c : Thread nD τ) none) Set.univ (onM (k0_part9 (F := F))) Q) := by
  rw [k0_part9_eq_skeleton]; unfold onM k0_part9_skel
  simp only [Prog.lift, Prog.bind_op, Prog.bind_ret, Prog.pure_eq_ret]
  iintro Ha Hk
  iapply (scan_step c _ _ _ f (scan16 f) rfl) $$ Ha; iintro Ha
  iapply (scan_step c _ _ _ (scan16 f) (scan32 (scan16 f)) rfl) $$ Ha; iintro Ha
  iapply (scan_step c _ _ _ (scan32 (scan16 f)) (scan64 (scan32 (scan16 f))) rfl) $$ Ha; iintro Ha
  iapply (scan_step c _ _ _ (scan64 (scan32 (scan16 f))) (scan128 (scan64 (scan32 (scan16 f)))) rfl) $$ Ha; iintro Ha
  iapply (wp_load 𝒱₀ (c : Thread nD τ) none Set.univ (m := aM) (Finset.subset_univ _)) $$ Ha; iintro Ha
  iapply (wp_load 𝒱₀ (c : Thread nD τ) none Set.univ (m := aM) (Finset.subset_univ _)) $$ Ha; iintro Ha
  iapply (wp_load 𝒱₀ (c : Thread nD τ) none Set.univ (m := aM) (Finset.subset_univ _)) $$ Ha; iintro Ha
  rw [wp_ret]; imodintro; iapply Hk $$ Ha

end Cert.Cumprod

end
-- ==== Proof.Sends.lean ====
/-
The third stretch: the barrier is passed, and the product of the device's rows is copied to every other device.
-/
module

public import proofs.«01_k».proof.Proof.Scan

@[expose] public section

set_option maxRecDepth 16384

noncomputable section

namespace Cert.Cumprod

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

/-- For each offset still to do, the two tokens of its copy and the share of the product it reads. -/
def sendRes (n : ℕ) : sProp 𝕄 :=
  bigSep (todo n) fun j => iprop(dutyTok ER (sendCell c j) 0 j ∗ dutyTok ER (recvCell (up c j) j) 0 j ∗ totPts m ρ c (shareAt j))

/-- With the slots that came with the barrier, the copies can start. -/
theorem send_start : iprop((∃ W, owes (c : Thread nD τ) (owesR c 1) W) ∗ (bigSep (todo 1) fun j => iprop(∃ f, slotPts (up c j) j f)) ∗ sendRes m ρ c 1)
    ⊢ SendSt m ρ c 1 := by
  unfold SendSt sendRes
  rw [done_one, bigSep_empty, bigSep_sep' (todo 1) (fun j => iprop(∃ f, slotPts (up c j) j f))]
  iintro ⟨HO, Hs, Ht⟩
  isplitl [HO]; · iexact HO
  isplitl [Hs Ht]
  · isplitl [Hs]; · iexact Hs
    iexact Ht
  iempintro

/-- The ninth and tenth steps; the barrier; the copies at offsets 1 and 2. -/
theorem part10_run (f : S1024x512.Idx → F .f32) (v b : Vec F S768x512 .f32)
    (hv : v = k0_pay13 (aM.view.readAt (Elt F) (Rect.unit (s := S1024x512) ![0, 0] S768x512.size inb_S1024x512_S768x512_0_0).toLoadRect f)
              (aM.view.readAt (Elt F) (Rect.unit (s := S1024x512) ![256, 0] S768x512.size inb_S1024x512_S768x512_256_0).toLoadRect f))
    {Q : (Σ' (v259 : BitVec 32) (v269 : BitVec 32), BitVec 32) → sProp 𝕄} :
    records m ρ K ⊢ iprop(levAts L lv -∗ SigSt c 32 -∗ cred (tallyAt (barCell c) () 31) -∗ atPos ER (barCell c) 0 ∅ 0 -∗ sendRes m ρ c 1 -∗ aPts c f
      -∗ (∀ r, SendSt m ρ c 3 -∗ semVal (barCell c) 0 -∗ aPts c (scan512 (scan256 f)) -∗ Q r)
      -∗ wp frame (wpE (defs₀ (F := F)) 𝒱₀ (c : Thread nD τ) none) Set.univ (onM (k0_part10 (F := F)) c (myWord c) barArr v b) Q) := by
  rw [k0_part10_eq_skeleton]; unfold onM k0_part10_skel
  simp only [semWaitWord, Prog.lift, Prog.bind_op, Prog.bind_ret, Prog.pure_eq_ret]
  iintro #HR #Hlev HS Hc Hat Hres Ha Hk
  iapply (wp_store 𝒱₀ (c : Thread nD τ) none Set.univ (m := aM) (r := Rect.unit (s := S1024x512) ![256, 0] S768x512.size inb_S1024x512_S768x512_256_0) (Mk := Finset.univ) (Finset.subset_univ _)) $$ Ha; iintro Ha
  have h : (aM.access (Rect.unit (s := S1024x512) ![256, 0] S768x512.size inb_S1024x512_S768x512_256_0) : View sig .tc _ _ _).write (Elt F) f (k0_pay14 v) Finset.univ
      = scan256 f := by subst hv; rfl
  rw [h]
  iapply (scan_step c _ _ _ (scan256 f) (scan512 (scan256 f)) rfl) $$ Ha; iintro Ha
  iapply (wait_bar_step m ρ K c _ rfl) $$ HR Hlev HS Hc Hat; iintro HO Hz Hs
  ihave HS := (send_start m ρ c) $$ [HO Hs Hres]
  · isplitl [HO]; · iexact HO
    isplitl [Hs]; · iexact Hs
    iexact Hres
  iapply (send_step m ρ K c 1 (by decide) (by decide) ⟨k0_dev32 c, k0_dev32_lt c⟩ (k0_dev32_eq c)) $$ HR HS; iintro HS
  iapply (send_step m ρ K c 2 (by decide) (by decide) ⟨k0_dev33 c, k0_dev33_lt c⟩ (k0_dev33_eq c)) $$ HR HS; iintro HS
  rw [wp_ret]; imodintro; iapply Hk $$ HS Hz Ha

/-- The copies at offsets 3 to 5. -/
theorem part11_run (v2 a : BitVec 32) {Q : (Σ' (u : BitVec 32) (v : BitVec 32) (w : BitVec 32), BitVec 32) → sProp 𝕄} :
    records m ρ K ⊢ iprop(SendSt m ρ c 3 -∗ (∀ r, SendSt m ρ c 6 -∗ Q r)
      -∗ wp frame (wpE (defs₀ (F := F)) 𝒱₀ (c : Thread nD τ) none) Set.univ (onM (k0_part11 (F := F)) c v2 a) Q) := by
  rw [k0_part11_eq_skeleton]; unfold onM k0_part11_skel
  simp only [Prog.lift, Prog.bind_op, Prog.bind_ret, Prog.pure_eq_ret]
  iintro #HR HS Hk
  iapply (send_step m ρ K c 3 (by decide) (by decide) ⟨k0_dev34 c, k0_dev34_lt c⟩ (k0_dev34_eq c)) $$ HR HS; iintro HS
  iapply (send_step m ρ K c 4 (by decide) (by decide) ⟨k0_dev35 c, k0_dev35_lt c⟩ (k0_dev35_eq c)) $$ HR HS; iintro HS
  iapply (send_step m ρ K c 5 (by decide) (by decide) ⟨k0_dev36 c, k0_dev36_lt c⟩ (k0_dev36_eq c)) $$ HR HS; iintro HS
  rw [wp_ret]; imodintro; iapply Hk $$ HS

/-- The copies at offsets 6 to 8. -/
theorem part12_run (v2 a : BitVec 32) {Q : (Σ' (u : BitVec 32) (v : BitVec 32) (w : BitVec 32), BitVec 32) → sProp 𝕄} :
    records m ρ K ⊢ iprop(SendSt m ρ c 6 -∗ (∀ r, SendSt m ρ c 9 -∗ Q r)
      -∗ wp frame (wpE (defs₀ (F := F)) 𝒱₀ (c : Thread nD τ) none) Set.univ (onM (k0_part12 (F := F)) c v2 a) Q) := by
  rw [k0_part12_eq_skeleton]; unfold onM k0_part12_skel
  simp only [Prog.lift, Prog.bind_op, Prog.bind_ret, Prog.pure_eq_ret]
  iintro #HR HS Hk
  iapply (send_step m ρ K c 6 (by decide) (by decide) ⟨k0_dev37 c, k0_dev37_lt c⟩ (k0_dev37_eq c)) $$ HR HS; iintro HS
  iapply (send_step m ρ K c 7 (by decide) (by decide) ⟨k0_dev38 c, k0_dev38_lt c⟩ (k0_dev38_eq c)) $$ HR HS; iintro HS
  iapply (send_step m ρ K c 8 (by decide) (by decide) ⟨k0_dev39 c, k0_dev39_lt c⟩ (k0_dev39_eq c)) $$ HR HS; iintro HS
  rw [wp_ret]; imodintro; iapply Hk $$ HS

/-- The copies at offsets 9 to 11. -/
theorem part13_run (v2 a : BitVec 32) {Q : (Σ' (u : BitVec 32) (v : BitVec 32) (w : BitVec 32), BitVec 32) → sProp 𝕄} :
    records m ρ K ⊢ iprop(SendSt m ρ c 9 -∗ (∀ r, SendSt m ρ c 12 -∗ Q r)
      -∗ wp frame (wpE (defs₀ (F := F)) 𝒱₀ (c : Thread nD τ) none) Set.univ (onM (k0_part13 (F := F)) c v2 a) Q) := by
  rw [k0_part13_eq_skeleton]; unfold onM k0_part13_skel
  simp only [Prog.lift, Prog.bind_op, Prog.bind_ret, Prog.pure_eq_ret]
  iintro #HR HS Hk
  iapply (send_step m ρ K c 9 (by decide) (by decide) ⟨k0_dev40 c, k0_dev40_lt c⟩ (k0_dev40_eq c)) $$ HR HS; iintro HS
  iapply (send_step m ρ K c 10 (by decide) (by decide) ⟨k0_dev41 c, k0_dev41_lt c⟩ (k0_dev41_eq c)) $$ HR HS; iintro HS
  iapply (send_step m ρ K c 11 (by decide) (by decide) ⟨k0_dev42 c, k0_dev42_lt c⟩ (k0_dev42_eq c)) $$ HR HS; iintro HS
  rw [wp_ret]; imodintro; iapply Hk $$ HS

/-- The copies at offsets 12 to 14. -/
theorem part14_run (v2 a : BitVec 32) {Q : (Σ' (u : BitVec 32) (v : BitVec 32) (w : BitVec 32), BitVec 32) → sProp 𝕄} :
    records m ρ K ⊢ iprop(SendSt m ρ c 12 -∗ (∀ r, SendSt m ρ c 15 -∗ Q r)
      -∗ wp frame (wpE (defs₀ (F := F)) 𝒱₀ (c : Thread nD τ) none) Set.univ (onM (k0_part14 (F := F)) c v2 a) Q) := by
  rw [k0_part14_eq_skeleton]; unfold onM k0_part14_skel
  simp only [Prog.lift, Prog.bind_op, Prog.bind_ret, Prog.pure_eq_ret]
  iintro #HR HS Hk
  iapply (send_step m ρ K c 12 (by decide) (by decide) ⟨k0_dev43 c, k0_dev43_lt c⟩ (k0_dev43_eq c)) $$ HR HS; iintro HS
  iapply (send_step m ρ K c 13 (by decide) (by decide) ⟨k0_dev44 c, k0_dev44_lt c⟩ (k0_dev44_eq c)) $$ HR HS; iintro HS
  iapply (send_step m ρ K c 14 (by decide) (by decide) ⟨k0_dev45 c, k0_dev45_lt c⟩ (k0_dev45_eq c)) $$ HR HS; iintro HS
  rw [wp_ret]; imodintro; iapply Hk $$ HS

/-- The copies at offsets 15 to 17. -/
theorem part15_run (v2 a : BitVec 32) {Q : (Σ' (u : BitVec 32) (v : BitVec 32) (w : BitVec 32), BitVec 32) → sProp 𝕄} :
    records m ρ K ⊢ iprop(SendSt m ρ c 15 -∗ (∀ r, SendSt m ρ c 18 -∗ Q r)
      -∗ wp frame (wpE (defs₀ (F := F)) 𝒱₀ (c : Thread nD τ) none) Set.univ (onM (k0_part15 (F := F)) c v2 a) Q) := by
  rw [k0_part15_eq_skeleton]; unfold onM k0_part15_skel
  simp only [Prog.lift, Prog.bind_op, Prog.bind_ret, Prog.pure_eq_ret]
  iintro #HR HS Hk
  iapply (send_step m ρ K c 15 (by decide) (by decide) ⟨k0_dev46 c, k0_dev46_lt c⟩ (k0_dev46_eq c)) $$ HR HS; iintro HS
  iapply (send_step m ρ K c 16 (by decide) (by decide) ⟨k0_dev47 c, k0_dev47_lt c⟩ (k0_dev47_eq c)) $$ HR HS; iintro HS
  iapply (send_step m ρ K c 17 (by decide) (by decide) ⟨k0_dev48 c, k0_dev48_lt c⟩ (k0_dev48_eq c)) $$ HR HS; iintro HS
  rw [wp_ret]; imodintro; iapply Hk $$ HS

/-- The copies at offsets 18 to 20. -/
theorem part16_run (v2 a : BitVec 32) {Q : (Σ' (u : BitVec 32) (v : BitVec 32) (w : BitVec 32), BitVec 32) → sProp 𝕄} :
    records m ρ K ⊢ iprop(SendSt m ρ c 18 -∗ (∀ r, SendSt m ρ c 21 -∗ Q r)
      -∗ wp frame (wpE (defs₀ (F := F)) 𝒱₀ (c : Thread nD τ) none) Set.univ (onM (k0_part16 (F := F)) c v2 a) Q) := by
  rw [k0_part16_eq_skeleton]; unfold onM k0_part16_skel
  simp only [Prog.lift, Prog.bind_op, Prog.bind_ret, Prog.pure_eq_ret]
  iintro #HR HS Hk
  iapply (send_step m ρ K c 18 (by decide) (by decide) ⟨k0_dev49 c, k0_dev49_lt c⟩ (k0_dev49_eq c)) $$ HR HS; iintro HS
  iapply (send_step m ρ K c 19 (by decide) (by decide) ⟨k0_dev50 c, k0_dev50_lt c⟩ (k0_dev50_eq c)) $$ HR HS; iintro HS
  iapply (send_step m ρ K c 20 (by decide) (by decide) ⟨k0_dev51 c, k0_dev51_lt c⟩ (k0_dev51_eq c)) $$ HR HS; iintro HS
  rw [wp_ret]; imodintro; iapply Hk $$ HS

/-- The copies at offsets 21 to 23. -/
theorem part17_run (v2 a : BitVec 32) {Q : (Σ' (u : BitVec 32) (v : BitVec 32) (w : BitVec 32), BitVec 32) → sProp 𝕄} :
    records m ρ K ⊢ iprop(SendSt m ρ c 21 -∗ (∀ r, SendSt m ρ c 24 -∗ Q r)
      -∗ wp frame (wpE (defs₀ (F := F)) 𝒱₀ (c : Thread nD τ) none) Set.univ (onM (k0_part17 (F := F)) c v2 a) Q) := by
  rw [k0_part17_eq_skeleton]; unfold onM k0_part17_skel
  simp only [Prog.lift, Prog.bind_op, Prog.bind_ret, Prog.pure_eq_ret]
  iintro #HR HS Hk
  iapply (send_step m ρ K c 21 (by decide) (by decide) ⟨k0_dev52 c, k0_dev52_lt c⟩ (k0_dev52_eq c)) $$ HR HS; iintro HS
  iapply (send_step m ρ K c 22 (by decide) (by decide) ⟨k0_dev53 c, k0_dev53_lt c⟩ (k0_dev53_eq c)) $$ HR HS; iintro HS
  iapply (send_step m ρ K c 23 (by decide) (by decide) ⟨k0_dev54 c, k0_dev54_lt c⟩ (k0_dev54_eq c)) $$ HR HS; iintro HS
  rw [wp_ret]; imodintro; iapply Hk $$ HS

/-- The copies at offsets 24 to 26. -/
theorem part18_run (v2 a : BitVec 32) {Q : (Σ' (u : BitVec 32) (v : BitVec 32) (w : BitVec 32), BitVec 32) → sProp 𝕄} :
    records m ρ K ⊢ iprop(SendSt m ρ c 24 -∗ (∀ r, SendSt m ρ c 27 -∗ Q r)
      -∗ wp frame (wpE (defs₀ (F := F)) 𝒱₀ (c : Thread nD τ) none) Set.univ (onM (k0_part18 (F := F)) c v2 a) Q) := by
  rw [k0_part18_eq_skeleton]; unfold onM k0_part18_skel
  simp only [Prog.lift, Prog.bind_op, Prog.bind_ret, Prog.pure_eq_ret]
  iintro #HR HS Hk
  iapply (send_step m ρ K c 24 (by decide) (by decide) ⟨k0_dev55 c, k0_dev55_lt c⟩ (k0_dev55_eq c)) $$ HR HS; iintro HS
  iapply (send_step m ρ K c 25 (by decide) (by decide) ⟨k0_dev56 c, k0_dev56_lt c⟩ (k0_dev56_eq c)) $$ HR HS; iintro HS
  iapply (send_step m ρ K c 26 (by decide) (by decide) ⟨k0_dev57 c, k0_dev57_lt c⟩ (k0_dev57_eq c)) $$ HR HS; iintro HS
  rw [wp_ret]; imodintro; iapply Hk $$ HS

/-- The copies at offsets 27 to 29. -/
theorem part19_run (v2 a : BitVec 32) {Q : (Σ' (u : BitVec 32) (v : BitVec 32) (w : BitVec 32), BitVec 32) → sProp 𝕄} :
    records m ρ K ⊢ iprop(SendSt m ρ c 27 -∗ (∀ r, SendSt m ρ c 30 -∗ Q r)
      -∗ wp frame (wpE (defs₀ (F := F)) 𝒱₀ (c : Thread nD τ) none) Set.univ (onM (k0_part19 (F := F)) c v2 a) Q) := by
  rw [k0_part19_eq_skeleton]; unfold onM k0_part19_skel
  simp only [Prog.lift, Prog.bind_op, Prog.bind_ret, Prog.pure_eq_ret]
  iintro #HR HS Hk
  iapply (send_step m ρ K c 27 (by decide) (by decide) ⟨k0_dev58 c, k0_dev58_lt c⟩ (k0_dev58_eq c)) $$ HR HS; iintro HS
  iapply (send_step m ρ K c 28 (by decide) (by decide) ⟨k0_dev59 c, k0_dev59_lt c⟩ (k0_dev59_eq c)) $$ HR HS; iintro HS
  iapply (send_step m ρ K c 29 (by decide) (by decide) ⟨k0_dev60 c, k0_dev60_lt c⟩ (k0_dev60_eq c)) $$ HR HS; iintro HS
  rw [wp_ret]; imodintro; iapply Hk $$ HS

end Cert.Cumprod

end
-- ==== Proof.Waits.lean ====
/-
The last stretch: the rows so far are stored, every copy sent and every copy expected is waited for, and the products
that came are read.
-/
module

public import proofs.«01_k».proof.Proof.Sends

@[expose] public section

set_option maxRecDepth 16384

noncomputable section

namespace Cert.Cumprod

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

/-- All copies sent: nothing is owed, and what is left is to wait. -/
theorem send_end : iprop(SendSt m ρ c 32 ∗ bigSep (todo 1) fun j => atPos ER (sendCell c j) 0 ∅ 0) ⊢ iprop(idle c ∗ WS m ρ c 1) := by
  unfold SendSt WS idle
  rw [done_one, bigSep_empty, owesR_end, done_end, ← todo_one, bigSep_sep' (todo 1) (fun j => (cred (tallyAt (sendCell c j) () N) : sProp 𝕄))]
  iintro ⟨⟨HO, -, Hc⟩, Ha⟩
  isplitl [HO]; · iexact HO
  isplitl [Hc Ha]
  · isplitl [Hc]; · iexact Hc
    iexact Ha
  iempintro

/-- The last two copies; the running product of the device's own rows is stored as the result so far; the first wait. -/
theorem part20_run (v2 a : BitVec 32) (f : S1024x512.Idx → F .f32) (g : S1024x512.Idx → F .bf16) {Q : (Σ' (u : BitVec 32), BitVec 32) → sProp 𝕄} :
    records m ρ K ⊢ iprop(SendSt m ρ c 30 -∗ (bigSep (todo 1) fun j => atPos ER (sendCell c j) 0 ∅ 0) -∗ aPts c f -∗ oPts c g
      -∗ (∀ r, idle c -∗ WS m ρ c 2 -∗ aPts c f -∗ oPts c (k0_pay16 f) -∗ Q r)
      -∗ wp frame (wpE (defs₀ (F := F)) 𝒱₀ (c : Thread nD τ) none) Set.univ (onM (k0_part20 (F := F)) c v2 a) Q) := by
  rw [k0_part20_eq_skeleton]; unfold onM k0_part20_skel
  simp only [Prog.lift, Prog.bind_op, Prog.bind_ret, Prog.pure_eq_ret]
  iintro #HR HS Hat Ha Ho Hk
  iapply (send_step m ρ K c 30 (by decide) (by decide) ⟨k0_dev61 c, k0_dev61_lt c⟩ (k0_dev61_eq c)) $$ HR HS; iintro HS
  iapply (send_step m ρ K c 31 (by decide) (by decide) ⟨k0_dev62 c, k0_dev62_lt c⟩ (k0_dev62_eq c)) $$ HR HS; iintro HS
  iapply (wp_load 𝒱₀ (c : Thread nD τ) none Set.univ (m := aM) (Finset.subset_univ _)) $$ Ha; iintro Ha
  rw [read_a]
  iapply (wp_load 𝒱₀ (c : Thread nD τ) none Set.univ (m := oM) (Finset.subset_univ _)) $$ Ho; iintro Ho
  iapply (wp_store 𝒱₀ (c : Thread nD τ) none Set.univ (m := oM) (r := r2) (Mk := Finset.univ) (Finset.subset_univ _)) $$ Ho; iintro Ho
  rw [write_o]
  ihave H := (send_end m ρ c) $$ [HS Hat]
  · isplitl [HS]; · iexact HS
    iexact Hat
  icases H with ⟨HI, HS⟩
  iapply (wait_send_step m ρ K c 1 (by decide) (by decide)) $$ HR HI HS; iintro HI HS
  rw [wp_ret]; imodintro; iapply Hk $$ HI HS Ha Ho

/-- Waits: the sends from 2 on and the arrivals from 1 on, up to those before 4 and 3. -/
theorem part21_run (u v w : BitVec 32) {Q : PUnit → sProp 𝕄} :
    records m ρ K ⊢ iprop(idle c -∗ WS m ρ c 2 -∗ WR m ρ c 1 -∗ (idle c -∗ WS m ρ c 4 -∗ WR m ρ c 3 -∗ Q ⟨⟩)
      -∗ wp frame (wpE (defs₀ (F := F)) 𝒱₀ (c : Thread nD τ) none) Set.univ (onM (k0_part21 (F := F)) u v w) Q) := by
  rw [k0_part21_eq_skeleton]; unfold onM k0_part21_skel
  simp only [Prog.lift, Prog.bind_op, Prog.bind_ret, Prog.pure_eq_ret]
  iintro #HR HI HS HV Hk
  iapply (wait_recv_step m ρ K c 1 (by decide) (by decide)) $$ HR HI HV; iintro HI HV
  iapply (wait_send_step m ρ K c 2 (by decide) (by decide)) $$ HR HI HS; iintro HI HS
  iapply (wait_recv_step m ρ K c 2 (by decide) (by decide)) $$ HR HI HV; iintro HI HV
  iapply (wait_send_step m ρ K c 3 (by decide) (by decide)) $$ HR HI HS; iintro HI HS
  rw [wp_ret]; imodintro; iapply Hk $$ HI HS HV

/-- Waits: the sends from 4 on and the arrivals from 3 on, up to those before 6 and 6. -/
theorem part22_run (u v : BitVec 32) {Q : PUnit → sProp 𝕄} :
    records m ρ K ⊢ iprop(idle c -∗ WS m ρ c 4 -∗ WR m ρ c 3 -∗ (idle c -∗ WS m ρ c 6 -∗ WR m ρ c 6 -∗ Q ⟨⟩)
      -∗ wp frame (wpE (defs₀ (F := F)) 𝒱₀ (c : Thread nD τ) none) Set.univ (onM (k0_part22 (F := F)) u v) Q) := by
  rw [k0_part22_eq_skeleton]; unfold onM k0_part22_skel
  simp only [Prog.lift, Prog.bind_op, Prog.bind_ret, Prog.pure_eq_ret]
  iintro #HR HI HS HV Hk
  iapply (wait_recv_step m ρ K c 3 (by decide) (by decide)) $$ HR HI HV; iintro HI HV
  iapply (wait_send_step m ρ K c 4 (by decide) (by decide)) $$ HR HI HS; iintro HI HS
  iapply (wait_recv_step m ρ K c 4 (by decide) (by decide)) $$ HR HI HV; iintro HI HV
  iapply (wait_send_step m ρ K c 5 (by decide) (by decide)) $$ HR HI HS; iintro HI HS
  iapply (wait_recv_step m ρ K c 5 (by decide) (by decide)) $$ HR HI HV; iintro HI HV
  rw [wp_ret]; imodintro; iapply Hk $$ HI HS HV

/-- Waits: the sends from 6 on and the arrivals from 6 on, up to those before 9 and 8. -/
theorem part23_run (u v w : BitVec 32) {Q : PUnit → sProp 𝕄} :
    records m ρ K ⊢ iprop(idle c -∗ WS m ρ c 6 -∗ WR m ρ c 6 -∗ (idle c -∗ WS m ρ c 9 -∗ WR m ρ c 8 -∗ Q ⟨⟩)
      -∗ wp frame (wpE (defs₀ (F := F)) 𝒱₀ (c : Thread nD τ) none) Set.univ (onM (k0_part23 (F := F)) u v w) Q) := by
  rw [k0_part23_eq_skeleton]; unfold onM k0_part23_skel
  simp only [Prog.lift, Prog.bind_op, Prog.bind_ret, Prog.pure_eq_ret]
  iintro #HR HI HS HV Hk
  iapply (wait_send_step m ρ K c 6 (by decide) (by decide)) $$ HR HI HS; iintro HI HS
  iapply (wait_recv_step m ρ K c 6 (by decide) (by decide)) $$ HR HI HV; iintro HI HV
  iapply (wait_send_step m ρ K c 7 (by decide) (by decide)) $$ HR HI HS; iintro HI HS
  iapply (wait_recv_step m ρ K c 7 (by decide) (by decide)) $$ HR HI HV; iintro HI HV
  iapply (wait_send_step m ρ K c 8 (by decide) (by decide)) $$ HR HI HS; iintro HI HS
  rw [wp_ret]; imodintro; iapply Hk $$ HI HS HV

/-- Waits: the sends from 9 on and the arrivals from 8 on, up to those before 11 and 11. -/
theorem part24_run (u v : BitVec 32) {Q : PUnit → sProp 𝕄} :
    records m ρ K ⊢ iprop(idle c -∗ WS m ρ c 9 -∗ WR m ρ c 8 -∗ (idle c -∗ WS m ρ c 11 -∗ WR m ρ c 11 -∗ Q ⟨⟩)
      -∗ wp frame (wpE (defs₀ (F := F)) 𝒱₀ (c : Thread nD τ) none) Set.univ (onM (k0_part24 (F := F)) u v) Q) := by
  rw [k0_part24_eq_skeleton]; unfold onM k0_part24_skel
  simp only [Prog.lift, Prog.bind_op, Prog.bind_ret, Prog.pure_eq_ret]
  iintro #HR HI HS HV Hk
  iapply (wait_recv_step m ρ K c 8 (by decide) (by decide)) $$ HR HI HV; iintro HI HV
  iapply (wait_send_step m ρ K c 9 (by decide) (by decide)) $$ HR HI HS; iintro HI HS
  iapply (wait_recv_step m ρ K c 9 (by decide) (by decide)) $$ HR HI HV; iintro HI HV
  iapply (wait_send_step m ρ K c 10 (by decide) (by decide)) $$ HR HI HS; iintro HI HS
  iapply (wait_recv_step m ρ K c 10 (by decide) (by decide)) $$ HR HI HV; iintro HI HV
  rw [wp_ret]; imodintro; iapply Hk $$ HI HS HV

/-- Waits: the sends from 11 on and the arrivals from 11 on, up to those before 14 and 13. -/
theorem part25_run (u v : BitVec 32) {Q : PUnit → sProp 𝕄} :
    records m ρ K ⊢ iprop(idle c -∗ WS m ρ c 11 -∗ WR m ρ c 11 -∗ (idle c -∗ WS m ρ c 14 -∗ WR m ρ c 13 -∗ Q ⟨⟩)
      -∗ wp frame (wpE (defs₀ (F := F)) 𝒱₀ (c : Thread nD τ) none) Set.univ (onM (k0_part25 (F := F)) u v) Q) := by
  rw [k0_part25_eq_skeleton]; unfold onM k0_part25_skel
  simp only [Prog.lift, Prog.bind_op, Prog.bind_ret, Prog.pure_eq_ret]
  iintro #HR HI HS HV Hk
  iapply (wait_send_step m ρ K c 11 (by decide) (by decide)) $$ HR HI HS; iintro HI HS
  iapply (wait_recv_step m ρ K c 11 (by decide) (by decide)) $$ HR HI HV; iintro HI HV
  iapply (wait_send_step m ρ K c 12 (by decide) (by decide)) $$ HR HI HS; iintro HI HS
  iapply (wait_recv_step m ρ K c 12 (by decide) (by decide)) $$ HR HI HV; iintro HI HV
  iapply (wait_send_step m ρ K c 13 (by decide) (by decide)) $$ HR HI HS; iintro HI HS
  rw [wp_ret]; imodintro; iapply Hk $$ HI HS HV

/-- Waits: the sends from 14 on and the arrivals from 13 on, up to those before 16 and 15. -/
theorem part26_run (u v w : BitVec 32) {Q : PUnit → sProp 𝕄} :
    records m ρ K ⊢ iprop(idle c -∗ WS m ρ c 14 -∗ WR m ρ c 13 -∗ (idle c -∗ WS m ρ c 16 -∗ WR m ρ c 15 -∗ Q ⟨⟩)
      -∗ wp frame (wpE (defs₀ (F := F)) 𝒱₀ (c : Thread nD τ) none) Set.univ (onM (k0_part26 (F := F)) u v w) Q) := by
  rw [k0_part26_eq_skeleton]; unfold onM k0_part26_skel
  simp only [Prog.lift, Prog.bind_op, Prog.bind_ret, Prog.pure_eq_ret]
  iintro #HR HI HS HV Hk
  iapply (wait_recv_step m ρ K c 13 (by decide) (by decide)) $$ HR HI HV; iintro HI HV
  iapply (wait_send_step m ρ K c 14 (by decide) (by decide)) $$ HR HI HS; iintro HI HS
  iapply (wait_recv_step m ρ K c 14 (by decide) (by decide)) $$ HR HI HV; iintro HI HV
  iapply (wait_send_step m ρ K c 15 (by decide) (by decide)) $$ HR HI HS; iintro HI HS
  rw [wp_ret]; imodintro; iapply Hk $$ HI HS HV

/-- Waits: the sends from 16 on and the arrivals from 15 on, up to those before 18 and 18. -/
theorem part27_run (u v : BitVec 32) {Q : PUnit → sProp 𝕄} :
    records m ρ K ⊢ iprop(idle c -∗ WS m ρ c 16 -∗ WR m ρ c 15 -∗ (idle c -∗ WS m ρ c 18 -∗ WR m ρ c 18 -∗ Q ⟨⟩)
      -∗ wp frame (wpE (defs₀ (F := F)) 𝒱₀ (c : Thread nD τ) none) Set.univ (onM (k0_part27 (F := F)) u v) Q) := by
  rw [k0_part27_eq_skeleton]; unfold onM k0_part27_skel
  simp only [Prog.lift, Prog.bind_op, Prog.bind_ret, Prog.pure_eq_ret]
  iintro #HR HI HS HV Hk
  iapply (wait_recv_step m ρ K c 15 (by decide) (by decide)) $$ HR HI HV; iintro HI HV
  iapply (wait_send_step m ρ K c 16 (by decide) (by decide)) $$ HR HI HS; iintro HI HS
  iapply (wait_recv_step m ρ K c 16 (by decide) (by decide)) $$ HR HI HV; iintro HI HV
  iapply (wait_send_step m ρ K c 17 (by decide) (by decide)) $$ HR HI HS; iintro HI HS
  iapply (wait_recv_step m ρ K c 17 (by decide) (by decide)) $$ HR HI HV; iintro HI HV
  rw [wp_ret]; imodintro; iapply Hk $$ HI HS HV

/-- Waits: the sends from 18 on and the arrivals from 18 on, up to those before 21 and 20. -/
theorem part28_run (u v w : BitVec 32) {Q : PUnit → sProp 𝕄} :
    records m ρ K ⊢ iprop(idle c -∗ WS m ρ c 18 -∗ WR m ρ c 18 -∗ (idle c -∗ WS m ρ c 21 -∗ WR m ρ c 20 -∗ Q ⟨⟩)
      -∗ wp frame (wpE (defs₀ (F := F)) 𝒱₀ (c : Thread nD τ) none) Set.univ (onM (k0_part28 (F := F)) u v w) Q) := by
  rw [k0_part28_eq_skeleton]; unfold onM k0_part28_skel
  simp only [Prog.lift, Prog.bind_op, Prog.bind_ret, Prog.pure_eq_ret]
  iintro #HR HI HS HV Hk
  iapply (wait_send_step m ρ K c 18 (by decide) (by decide)) $$ HR HI HS; iintro HI HS
  iapply (wait_recv_step m ρ K c 18 (by decide) (by decide)) $$ HR HI HV; iintro HI HV
  iapply (wait_send_step m ρ K c 19 (by decide) (by decide)) $$ HR HI HS; iintro HI HS
  iapply (wait_recv_step m ρ K c 19 (by decide) (by decide)) $$ HR HI HV; iintro HI HV
  iapply (wait_send_step m ρ K c 20 (by decide) (by decide)) $$ HR HI HS; iintro HI HS
  rw [wp_ret]; imodintro; iapply Hk $$ HI HS HV

/-- Waits: the sends from 21 on and the arrivals from 20 on, up to those before 23 and 23. -/
theorem part29_run (u v : BitVec 32) {Q : PUnit → sProp 𝕄} :
    records m ρ K ⊢ iprop(idle c -∗ WS m ρ c 21 -∗ WR m ρ c 20 -∗ (idle c -∗ WS m ρ c 23 -∗ WR m ρ c 23 -∗ Q ⟨⟩)
      -∗ wp frame (wpE (defs₀ (F := F)) 𝒱₀ (c : Thread nD τ) none) Set.univ (onM (k0_part29 (F := F)) u v) Q) := by
  rw [k0_part29_eq_skeleton]; unfold onM k0_part29_skel
  simp only [Prog.lift, Prog.bind_op, Prog.bind_ret, Prog.pure_eq_ret]
  iintro #HR HI HS HV Hk
  iapply (wait_recv_step m ρ K c 20 (by decide) (by decide)) $$ HR HI HV; iintro HI HV
  iapply (wait_send_step m ρ K c 21 (by decide) (by decide)) $$ HR HI HS; iintro HI HS
  iapply (wait_recv_step m ρ K c 21 (by decide) (by decide)) $$ HR HI HV; iintro HI HV
  iapply (wait_send_step m ρ K c 22 (by decide) (by decide)) $$ HR HI HS; iintro HI HS
  iapply (wait_recv_step m ρ K c 22 (by decide) (by decide)) $$ HR HI HV; iintro HI HV
  rw [wp_ret]; imodintro; iapply Hk $$ HI HS HV

/-- Waits: the sends from 23 on and the arrivals from 23 on, up to those before 26 and 25. -/
theorem part30_run (u v : BitVec 32) {Q : PUnit → sProp 𝕄} :
    records m ρ K ⊢ iprop(idle c -∗ WS m ρ c 23 -∗ WR m ρ c 23 -∗ (idle c -∗ WS m ρ c 26 -∗ WR m ρ c 25 -∗ Q ⟨⟩)
      -∗ wp frame (wpE (defs₀ (F := F)) 𝒱₀ (c : Thread nD τ) none) Set.univ (onM (k0_part30 (F := F)) u v) Q) := by
  rw [k0_part30_eq_skeleton]; unfold onM k0_part30_skel
  simp only [Prog.lift, Prog.bind_op, Prog.bind_ret, Prog.pure_eq_ret]
  iintro #HR HI HS HV Hk
  iapply (wait_send_step m ρ K c 23 (by decide) (by decide)) $$ HR HI HS; iintro HI HS
  iapply (wait_recv_step m ρ K c 23 (by decide) (by decide)) $$ HR HI HV; iintro HI HV
  iapply (wait_send_step m ρ K c 24 (by decide) (by decide)) $$ HR HI HS; iintro HI HS
  iapply (wait_recv_step m ρ K c 24 (by decide) (by decide)) $$ HR HI HV; iintro HI HV
  iapply (wait_send_step m ρ K c 25 (by decide) (by decide)) $$ HR HI HS; iintro HI HS
  rw [wp_ret]; imodintro; iapply Hk $$ HI HS HV

/-- Waits: the sends from 26 on and the arrivals from 25 on, up to those before 28 and 27. -/
theorem part31_run (u v w : BitVec 32) {Q : PUnit → sProp 𝕄} :
    records m ρ K ⊢ iprop(idle c -∗ WS m ρ c 26 -∗ WR m ρ c 25 -∗ (idle c -∗ WS m ρ c 28 -∗ WR m ρ c 27 -∗ Q ⟨⟩)
      -∗ wp frame (wpE (defs₀ (F := F)) 𝒱₀ (c : Thread nD τ) none) Set.univ (onM (k0_part31 (F := F)) u v w) Q) := by
  rw [k0_part31_eq_skeleton]; unfold onM k0_part31_skel
  simp only [Prog.lift, Prog.bind_op, Prog.bind_ret, Prog.pure_eq_ret]
  iintro #HR HI HS HV Hk
  iapply (wait_recv_step m ρ K c 25 (by decide) (by decide)) $$ HR HI HV; iintro HI HV
  iapply (wait_send_step m ρ K c 26 (by decide) (by decide)) $$ HR HI HS; iintro HI HS
  iapply (wait_recv_step m ρ K c 26 (by decide) (by decide)) $$ HR HI HV; iintro HI HV
  iapply (wait_send_step m ρ K c 27 (by decide) (by decide)) $$ HR HI HS; iintro HI HS
  rw [wp_ret]; imodintro; iapply Hk $$ HI HS HV

/-- Waits: the sends from 28 on and the arrivals from 27 on, up to those before 30 and 30. -/
theorem part32_run (u v : BitVec 32) {Q : PUnit → sProp 𝕄} :
    records m ρ K ⊢ iprop(idle c -∗ WS m ρ c 28 -∗ WR m ρ c 27 -∗ (idle c -∗ WS m ρ c 30 -∗ WR m ρ c 30 -∗ Q ⟨⟩)
      -∗ wp frame (wpE (defs₀ (F := F)) 𝒱₀ (c : Thread nD τ) none) Set.univ (onM (k0_part32 (F := F)) u v) Q) := by
  rw [k0_part32_eq_skeleton]; unfold onM k0_part32_skel
  simp only [Prog.lift, Prog.bind_op, Prog.bind_ret, Prog.pure_eq_ret]
  iintro #HR HI HS HV Hk
  iapply (wait_recv_step m ρ K c 27 (by decide) (by decide)) $$ HR HI HV; iintro HI HV
  iapply (wait_send_step m ρ K c 28 (by decide) (by decide)) $$ HR HI HS; iintro HI HS
  iapply (wait_recv_step m ρ K c 28 (by decide) (by decide)) $$ HR HI HV; iintro HI HV
  iapply (wait_send_step m ρ K c 29 (by decide) (by decide)) $$ HR HI HS; iintro HI HS
  iapply (wait_recv_step m ρ K c 29 (by decide) (by decide)) $$ HR HI HV; iintro HI HV
  rw [wp_ret]; imodintro; iapply Hk $$ HI HS HV

/-- The slot an index of the landing buffer lies in. -/
abbrev slotOf (i : S32x1x512.Idx) : Fin 32 := i (0 : Fin 3)
/-- Contents `f` in slot 0, contents `g` in the other slots. -/
def patch (f g : S32x1x512.Idx → Elt F .f32) : S32x1x512.Idx → Elt F .f32 := fun i => if slotOf i = 0 then f i else g i

omit [FloatOps F] in
/-- A family over all offsets, apart from offset 0. -/
theorem univ_zero (Φ : Fin 32 → sProp 𝕄) : bigSep Finset.univ Φ = iprop(Φ 0 ∗ bigSep (todo 1) Φ) := by
  rw [bigSep_erase (Finset.mem_univ (0 : Fin 32)), todo_one]; rfl

/-- The landing buffer is its slots. -/
theorem comm_split (f : S32x1x512.Idx → Elt F .f32) : cPts c f = (bigSep Finset.univ fun j => slotPts c j f : sProp 𝕄) := by
  have h := pointsTo_biUnion (Val := Elt F) (ℓ := (c : Thread nD τ).loc cc0_scratch2) (q := fullShare) (f := f) Finset.univ slotSet
    (fun a _ b _ h => slots_disjoint a b h) (Ix := Unit) (Name := ℕ) (U := UU) (Lvl := ℕ)
  rw [slots_cover] at h
  exact h

/-- Slot 0 with whatever it held and the other slots filled are a landing buffer filled everywhere but in slot 0. -/
theorem comm_join (f : S32x1x512.Idx → Elt F .f32) : iprop(slotPts c 0 f ∗ bigSep (todo 1) fun j => slotPts c j (landed m ρ c))
    ⊢ (iprop(∃ g : S32x1x512.Idx → Elt F .f32, ⌜∀ i, slotOf i ≠ 0 → g i = landed m ρ c i⌝ ∗ cPts c g) : sProp 𝕄) := by
  have h0 : (slotPts c 0 f : sProp 𝕄) = slotPts c 0 (patch f (landed m ρ c)) :=
    pointsTo_congr fun i hi => (if_pos (mem_slot.mp hi)).symm
  have hj : (bigSep (todo 1) fun j => slotPts c j (landed m ρ c) : sProp 𝕄)
      = bigSep (todo 1) fun j => slotPts c j (patch f (landed m ρ c)) :=
    bigSep_congr fun j h => pointsTo_congr fun i hi => (if_neg (fun e => by
      rw [todo_one] at h; exact (Finset.mem_erase.mp h).1 ((mem_slot.mp hi).symm.trans e))).symm
  rw [h0, hj]
  iintro ⟨H0, Hj⟩
  iexists (patch f (landed m ρ c))
  isplitr
  · ipureintro; exact fun i h => if_neg h
  rw [comm_split, univ_zero]
  isplitl [H0]; · iexact H0
  iexact Hj

/-- The last waits, and the read of all slots. -/
theorem part33_run (v2 a b : BitVec 32) (f : S32x1x512.Idx → Elt F .f32)
    {Q : (Σ' (v882 : FVec F S32x512 .f32) (v891 : IVec S32x512 1), FVec F S32x512 .f32) → sProp 𝕄} :
    records m ρ K ⊢ iprop(idle c -∗ WS m ρ c 30 -∗ WR m ρ c 30 -∗ slotPts c 0 f
      -∗ (∀ g, ⌜∀ i, slotOf i ≠ 0 → g i = landed m ρ c i⌝ -∗ idle c -∗ (bigSep (todo 1) fun j => iprop(semVal (sendCell c j) 0 ∗ totPts m ρ c (shareAt j)))
        -∗ (bigSep (todo 1) fun j => semVal (recvCell c j) 0) -∗ cPts c g -∗ Q ⟨k0_pay17 g, k0_pay18 v2, k0_pay19⟩)
      -∗ wp frame (wpE (defs₀ (F := F)) 𝒱₀ (c : Thread nD τ) none) Set.univ (onM (k0_part33 (F := F)) v2 a b) Q) := by
  rw [k0_part33_eq_skeleton]; unfold onM k0_part33_skel
  simp only [Prog.lift, Prog.bind_op, Prog.bind_ret, Prog.pure_eq_ret]
  iintro #HR HI HS HV Hf Hk
  iapply (wait_send_step m ρ K c 30 (by decide) (by decide)) $$ HR HI HS; iintro HI HS
  iapply (wait_recv_step m ρ K c 30 (by decide) (by decide)) $$ HR HI HV; iintro HI HV
  iapply (wait_send_step m ρ K c 31 (by decide) (by decide)) $$ HR HI HS; iintro HI HS
  iapply (wait_recv_step m ρ K c 31 (by decide) (by decide)) $$ HR HI HV; iintro HI HV
  unfold WS WR
  rw [done_end, ← todo_one, bigSep_sep' (todo 1) (fun j => (semVal (recvCell c j) 0 : sProp 𝕄))]
  icases HS with ⟨-, HS⟩
  icases HV with ⟨-, HZ, HV⟩
  ihave H := (comm_join m ρ c f) $$ [Hf HV]
  · isplitl [Hf]; · iexact Hf
    iexact HV
  icases H with ⟨%g, %hg, Hg⟩
  iapply (wp_load 𝒱₀ (c : Thread nD τ) none Set.univ (m := cM) (Finset.subset_univ _)) $$ Hg; iintro Hg
  rw [read_c]
  rw [wp_ret]; imodintro; iapply Hk $$ [] HI HS HZ Hg
  ipureintro; exact hg

end Cert.Cumprod

end
-- ==== Proof.Mask.lean ====
/-
Which slots of the landing buffer enter the result: slot `j` of device `c` holds the product of the device `j` places
before it, and it enters exactly when that device comes before `c` in the row order. Slot 0 never does.
-/
module

public import Idealize.ShloMosaic.Lib.Pipeline.Value
public import proofs.«01_k».proof.Proof.Waits

@[expose] public section

set_option maxRecDepth 16384

noncomputable section

namespace Cert.Cumprod

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

theorem myWord_eq : ∀ c : Dev nD, myWord c = BitVec.ofNat 32 c.val := by decide

/-- The comparison the body makes, word by word. -/
theorem mask_word : ∀ c j : Fin 32,
    IntOp.cmpi .slt (IntOp.remsi .vector (IntOp.addi (IntOp.subi (BitVec.ofNat 32 c.val) (BitVec.ofNat 32 (0 * 32 + j.val))) 32#32) 32#32) (BitVec.ofNat 32 c.val)
      = if (c.val + (32 - j.val)) % 32 < c.val then 1#1 else 0#1 := by decide +kernel

theorem mask_at (i : S32x512.Idx) : k0_pay18 (myWord c) i = if (dn c (i 0)).val < c.val then 1#1 else 0#1 := by
  rw [myWord_eq]
  exact mask_word c (i 0)

/-- The slots, with one in place of those that do not enter. -/
def masked (g : S32x1x512.Idx → Elt F .f32) : S32x512.Idx → Elt F .f32 := select (k0_pay18 (myWord c)) (k0_pay17 g) k0_pay19

theorem slots_at (g : S32x1x512.Idx → Elt F .f32) (i : S32x512.Idx) : k0_pay17 g i = g (slotIx (i 0) (i 1)) := by
  unfold k0_pay17
  refine shapeCast_apply g shapeCasts_S32x1x512_S32x512 i (slotIx (i 0) (i 1)) ?_
  rw [Shape.rowMajor_val_three, Shape.rowMajor_val_two]
  show ((i 0).val * 1 + 0) * 512 + (i 1).val = (i 0).val * 512 + (i 1).val
  omega

theorem masked_at (g : S32x1x512.Idx → Elt F .f32) (i : S32x512.Idx) :
    masked c g i = if (dn c (i 0)).val < c.val then g (slotIx (i 0) (i 1)) else Scalar.ofBits .f32 0x3F800000#32 := by
  show Scalar.select (k0_pay18 (myWord c) i) (k0_pay17 g i) (k0_pay19 (F := F) i) = _
  rw [mask_at, slots_at]
  by_cases h : (dn c (i 0)).val < c.val
  · rw [if_pos h, if_pos h]; rfl
  · rw [if_neg h, if_neg h]; rfl

/-- What slot 0 holds does not matter. -/
theorem masked_congr {g g' : S32x1x512.Idx → Elt F .f32} (h : ∀ i, slotOf i ≠ 0 → g i = g' i) : masked c g = masked c g' := by
  funext i
  rw [masked_at, masked_at]
  by_cases hd : (dn c (i 0)).val < c.val
  · rw [if_pos hd, if_pos hd]
    refine h _ fun e => ?_
    have e0 : i 0 = (0 : Fin 32) := e
    rw [e0] at hd
    have hc : c.val < 32 := c.isLt
    have : (c.val + (32 - 0)) % 32 < c.val := hd
    omega
  · rw [if_neg hd, if_neg hd]

/-- The result from the masked slots and the rows so far. -/
def finish (w : S32x512.Idx → Elt F .f32) (o : S1024x512.Idx → Elt F .bf16) : S1024x512.Idx → Elt F .bf16 :=
  k0_pay20 w (fun _ => 1#1) w o

theorem finish_eq (g : S32x1x512.Idx → Elt F .f32) (o : S1024x512.Idx → Elt F .bf16) :
    k0_pay20 (k0_pay17 g) (k0_pay18 (myWord c)) k0_pay19 o = finish (masked c g) o := by
  have h : select (fun _ => 1#1) (masked c g) (masked c g) = select (k0_pay18 (myWord c)) (k0_pay17 g) k0_pay19 := rfl
  unfold finish k0_pay20
  rw [h]

end Cert.Cumprod

end
-- ==== Proof.Body.lean ====
/-
A device's whole run: from its tokens, its credits and its buffers to its result, every semaphore back at zero.
-/
module

public import proofs.«01_k».proof.Proof.Mask

@[expose] public section

set_option maxRecDepth 16384

noncomputable section

namespace Cert.Cumprod

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

/-- The running products of device `c`'s own rows. -/
def accAt : S1024x512.Idx → F .f32 := scanned (k0_pay2 (xAt m ρ c))
/-- The result on device `c`. -/
def outAt : (cc0_stg1_0 : Ref sig .tc).ty.Contents (Elt F) := finish (masked c (landed m ρ c)) (k0_pay16 (accAt m ρ c))

theorem outAt_eq : outAt m ρ c = finish (masked c (landed m ρ c)) (k0_pay16 (scan512 (scan256 (scan128 (scan64 (scan32 (scan16
    (scan8 (scan4 (scan2 (scan1 (k0_pay2 (xAt m ρ c))))))))))))) := rfl

/-- What device `c` holds of the protocol at the start: its positions at its own semaphores and the tokens of all it pays. -/
def tokens : sProp 𝕄 :=
  iprop(atPos ER (barCell c) 0 ∅ 0
    ∗ (bigSep Finset.univ fun j => atPos ER (sendCell c j) 0 ∅ 0)
    ∗ (bigSep Finset.univ fun j => atPos ER (recvCell c j) 0 ∅ 0)
    ∗ (bigSep (todo 1) fun j => dutyTok ER (barCell (dn c j)) 0 j)
    ∗ (bigSep (todo 1) fun j => dutyTok ER (sendCell c j) 0 j)
    ∗ (bigSep (todo 1) fun j => dutyTok ER (recvCell (up c j) j) 0 j))

/-- What the launch gives it to wait with. -/
def credits : sProp 𝕄 :=
  iprop(cred (tallyAt (barCell c) () 31) ∗ bigSep (todo 1) fun j => cred (tallyAt (recvCell c j) () N))

/-- Its three scratch buffers, whatever they hold. -/
def scratches : sProp 𝕄 := iprop((∃ f, aPts c f) ∗ (∃ f, vPts c f) ∗ (∃ f, cPts c f))

/-- Every semaphore of the protocol at zero. -/
def zeros : sProp 𝕄 :=
  iprop(semVal (barCell c) 0 ∗ (bigSep Finset.univ fun j => semVal (sendCell c j) 0) ∗ (bigSep Finset.univ fun j => semVal (recvCell c j) 0))

/-- A semaphore no one signals is closed at once. -/
theorem close_idle (k : CK) (h : dutySet k = ∅) : records m ρ K ⊢ iprop(atPos ER (kcell (c, k)) 0 ∅ 0 -∗ |={Set.univ}=> semVal (kcell (c, k)) 0) := by
  iintro #HR Hat
  iapply (Rounds.cell_close ER (sched m ρ) (Set.mem_univ (K (c, k))) (fun h => h) (R := 0)
    (duties_none m ρ (kcell (c, k)) ((duties_cell m ρ c k).trans h)))
  isplitr; · iapply (records_inv m ρ K (c, k)); iexact HR
  iexact Hat

theorem close_send : records m ρ K ⊢ iprop(atPos ER (sendCell c 0) 0 ∅ 0 -∗ |={Set.univ}=> semVal (sendCell c 0) 0) :=
  close_idle m ρ K c (kS 0) rfl
theorem close_recv : records m ρ K ⊢ iprop(atPos ER (recvCell c 0) 0 ∅ 0 -∗ |={Set.univ}=> semVal (recvCell c 0) 0) :=
  close_idle m ρ K c (kR 0) rfl

theorem total_shares : (totPts m ρ c fullShare
      ⊢ iprop(totPts m ρ c (Transfers.shareDrop fullShare 32) ∗ bigSep Finset.univ fun j => totPts m ρ c (shareAt j)) : Prop)
    ∧ (iprop(totPts m ρ c (Transfers.shareDrop fullShare 32) ∗ bigSep Finset.univ fun j => totPts m ρ c (shareAt j)) ⊢ totPts m ρ c fullShare) :=
  ⟨Transfers.pointsTo_toks_split fullShare 32, Transfers.pointsTo_toks_join fullShare 32⟩

/-- The local total is split into one share for each copy and a rest. -/
theorem total_split : vPts c (k0_pay4 (k0_pay3 (xAt m ρ c)))
    ⊢ (iprop((totPts m ρ c (Transfers.shareDrop fullShare 32) ∗ totPts m ρ c (shareAt 0)) ∗ bigSep (todo 1) fun j => totPts m ρ c (shareAt j)) : sProp 𝕄) := by
  have h := (total_shares m ρ c).1
  rw [univ_zero] at h
  refine BIBase.Entails.trans h ?_
  iintro ⟨Ha, Hb, Hc⟩
  isplitl [Ha Hb]
  · isplitl [Ha]; · iexact Ha
    iexact Hb
  iexact Hc
/-- The shares put together again are the buffer. -/
theorem total_join : iprop((totPts m ρ c (Transfers.shareDrop fullShare 32) ∗ totPts m ρ c (shareAt 0)) ∗ bigSep (todo 1) fun j => totPts m ρ c (shareAt j))
    ⊢ (vPts c (total m ρ c) : sProp 𝕄) := by
  have h := (total_shares m ρ c).2
  rw [univ_zero] at h
  refine BIBase.Entails.trans ?_ h
  iintro ⟨⟨Ha, Hb⟩, Hc⟩
  isplitl [Ha]; · iexact Ha
  isplitl [Hb]; · iexact Hb
  iexact Hc

/-- What the first signal needs: what is owed, the tokens of the signals, and the slots they hand over. -/
theorem sig_start (f : S32x1x512.Idx → Elt F .f32) : iprop((∃ W, owes (c : Thread nD τ) (owes₀ c) W) ∗ (bigSep (todo 1) fun j => dutyTok ER (barCell (dn c j)) 0 j)
    ∗ bigSep (todo 1) fun j => slotPts c j f) ⊢ (SigSt c 1 : sProp 𝕄) := by
  unfold SigSt owes₀
  have h : (bigSep (todo 1) fun j => slotPts c j f : sProp 𝕄) ⊢ bigSep (todo 1) fun j => iprop(∃ f, slotPts c j f) :=
    bigSep_mono fun j _ => exists_intro (Φ := fun f => slotPts c j f) f
  rw [bigSep_sep' (todo 1) (fun j => (dutyTok ER (barCell (dn c j)) 0 j : sProp 𝕄))]
  iintro ⟨HO, Ht, Hs⟩
  isplitl [HO]; · iexact HO
  isplitl [Ht]; · iexact Ht
  iapply h $$ Hs

/-- What the copies need: their tokens and the shares they read. -/
theorem send_res : iprop((bigSep (todo 1) fun j => dutyTok ER (sendCell c j) 0 j) ∗ (bigSep (todo 1) fun j => dutyTok ER (recvCell (up c j) j) 0 j)
    ∗ bigSep (todo 1) fun j => totPts m ρ c (shareAt j)) ⊢ (sendRes m ρ c 1 : sProp 𝕄) := by
  unfold sendRes
  rw [bigSep_sep' (todo 1) (fun j => (dutyTok ER (sendCell c j) 0 j : sProp 𝕄)), bigSep_sep' (todo 1) (fun j => (dutyTok ER (recvCell (up c j) j) 0 j : sProp 𝕄))]

/-- What the waits for the arrivals need. -/
theorem recv_start : iprop((bigSep (todo 1) fun j => cred (tallyAt (recvCell c j) () N)) ∗ bigSep (todo 1) fun j => atPos ER (recvCell c j) 0 ∅ 0)
    ⊢ (WR m ρ c 1 : sProp 𝕄) := by
  unfold WR
  rw [done_one, bigSep_empty, bigSep_sep' (todo 1) (fun j => (cred (tallyAt (recvCell c j) () N) : sProp 𝕄))]
  iintro H
  isplitl [H]; · iexact H
  iempintro

set_option maxHeartbeats 1600000 in
/-- The body, on device `c`. -/
theorem body_run (g : S1024x512.Idx → F .bf16) {Q : PUnit → sProp 𝕄} :
    records m ρ K ⊢ iprop(levAts L lv -∗ (∃ W, owes (c : Thread nD τ) (owes₀ c) W) -∗ tokens c -∗ credits c -∗ scratches c
      -∗ xPts c (xAt m ρ c) -∗ oPts c g
      -∗ (idle c -∗ zeros c -∗ scratches c -∗ xPts c (xAt m ρ c) -∗ oPts c (outAt m ρ c) -∗ Q ⟨⟩)
      -∗ wp frame (wpE (defs₀ (F := F)) 𝒱₀ (c : Thread nD τ) none) Set.univ (onM (cc0_body (F := F))) Q) := by
  rw [cc0_body_eq_skeleton]; unfold onM cc0_body_skel
  rw [k0_part34_eq_skeleton]; unfold k0_part34_skel
  unfold tokens credits scratches zeros
  rw [univ_zero fun j => (atPos ER (sendCell c j) 0 ∅ 0 : sProp 𝕄), univ_zero fun j => (atPos ER (recvCell c j) 0 ∅ 0 : sProp 𝕄),
    univ_zero fun j => (semVal (sendCell c j) 0 : sProp 𝕄), univ_zero fun j => (semVal (recvCell c j) 0 : sProp 𝕄)]
  simp only [wp_bind]
  iintro #HR #Hlev HO ⟨HatB, ⟨HatS0, HatS⟩, ⟨HatR0, HatR⟩, HtB, HtS, HtR⟩ ⟨HcB, HcR⟩ ⟨⟨%fa, Ha⟩, ⟨%fv, Hv⟩, ⟨%fc, Hc⟩⟩ Hx Ho Hk
  imod (close_send m ρ K c) $$ HR HatS0 with HzS0
  imod (close_recv m ρ K c) $$ HR HatR0 with HzR0
  ihave Hc := (Entails.of_eq ((comm_split c fc).trans (univ_zero _))) $$ Hc
  icases Hc with ⟨Hc0, Hc⟩
  ihave HS := (sig_start c fc) $$ [HO HtB Hc]
  · isplitl [HO]; · iexact HO
    isplitl [HtB]; · iexact HtB
    iexact Hc
  ihave HV := (recv_start m ρ c) $$ [HcR HatR]
  · isplitl [HcR]; · iexact HcR
    iexact HatR
  iapply (part1_run m ρ K c) $$ HR HS; iintro %u %u' HS
  iapply (part2_run m ρ K c _ _ _) $$ HR HS; iintro %r HS; obtain ⟨_, _⟩ := r
  iapply (part3_run m ρ K c _ _ _) $$ HR HS; iintro %r HS; obtain ⟨_, _⟩ := r
  iapply (part4_run m ρ K c _ _ _) $$ HR HS; iintro %r HS; obtain ⟨_, _⟩ := r
  iapply (part5_run m ρ K c _ _ _) $$ HR HS; iintro %r HS; obtain ⟨_, _⟩ := r
  iapply (part6_run m ρ K c _ _ _) $$ HR HS; iintro %r HS; obtain ⟨_, _⟩ := r
  iapply (part7_run m ρ K c _ _ _ (xAt m ρ c) fa) $$ HR HS Hx Ha; iintro HS Hx Ha
  iapply (part8_run c _ fv _) $$ Hv Ha; iintro Hv Ha
  ihave Hv := (total_split m ρ c) $$ Hv
  icases Hv with ⟨Hv0, Hv⟩
  ihave Hres := (send_res m ρ c) $$ [HtS HtR Hv]
  · isplitl [HtS]; · iexact HtS
    isplitl [HtR]; · iexact HtR
    iexact Hv
  iapply (part9_run c _) $$ Ha; iintro %b Ha
  iapply (part10_run m ρ K c _ _ _ rfl) $$ HR Hlev HS HcB HatB Hres Ha; iintro %r HS HzB Ha; obtain ⟨_, _, _⟩ := r
  iapply (part11_run m ρ K c _ _) $$ HR HS; iintro %r HS; obtain ⟨_, _, _, _⟩ := r
  iapply (part12_run m ρ K c _ _) $$ HR HS; iintro %r HS; obtain ⟨_, _, _, _⟩ := r
  iapply (part13_run m ρ K c _ _) $$ HR HS; iintro %r HS; obtain ⟨_, _, _, _⟩ := r
  iapply (part14_run m ρ K c _ _) $$ HR HS; iintro %r HS; obtain ⟨_, _, _, _⟩ := r
  iapply (part15_run m ρ K c _ _) $$ HR HS; iintro %r HS; obtain ⟨_, _, _, _⟩ := r
  iapply (part16_run m ρ K c _ _) $$ HR HS; iintro %r HS; obtain ⟨_, _, _, _⟩ := r
  iapply (part17_run m ρ K c _ _) $$ HR HS; iintro %r HS; obtain ⟨_, _, _, _⟩ := r
  iapply (part18_run m ρ K c _ _) $$ HR HS; iintro %r HS; obtain ⟨_, _, _, _⟩ := r
  iapply (part19_run m ρ K c _ _) $$ HR HS; iintro %r HS; obtain ⟨_, _, _, _⟩ := r
  iapply (part20_run m ρ K c _ _ _ _) $$ HR HS HatS Ha Ho; iintro %r HI HS Ha Ho; obtain ⟨_, _⟩ := r
  iapply (part21_run m ρ K c _ _ _) $$ HR HI HS HV; iintro HI HS HV
  iapply (part22_run m ρ K c _ _) $$ HR HI HS HV; iintro HI HS HV
  iapply (part23_run m ρ K c _ _ _) $$ HR HI HS HV; iintro HI HS HV
  iapply (part24_run m ρ K c _ _) $$ HR HI HS HV; iintro HI HS HV
  iapply (part25_run m ρ K c _ _) $$ HR HI HS HV; iintro HI HS HV
  iapply (part26_run m ρ K c _ _ _) $$ HR HI HS HV; iintro HI HS HV
  iapply (part27_run m ρ K c _ _) $$ HR HI HS HV; iintro HI HS HV
  iapply (part28_run m ρ K c _ _ _) $$ HR HI HS HV; iintro HI HS HV
  iapply (part29_run m ρ K c _ _) $$ HR HI HS HV; iintro HI HS HV
  iapply (part30_run m ρ K c _ _) $$ HR HI HS HV; iintro HI HS HV
  iapply (part31_run m ρ K c _ _ _) $$ HR HI HS HV; iintro HI HS HV
  iapply (part32_run m ρ K c _ _) $$ HR HI HS HV; iintro HI HS HV
  iapply (part33_run m ρ K c _ _ _ fc) $$ HR HI HS HV Hc0; iintro %w %hw HI HS HzR Hc
  simp only [Prog.lift, Prog.bind_op, Prog.bind_ret, Prog.pure_eq_ret]
  iapply (wp_load 𝒱₀ (c : Thread nD τ) none Set.univ (m := oM) (Finset.subset_univ _)) $$ Ho; iintro Ho
  rw [wp_ret]; imodintro
  iapply (wp_load 𝒱₀ (c : Thread nD τ) none Set.univ (m := oM) (Finset.subset_univ _)) $$ Ho; iintro Ho
  rw [wp_ret]; imodintro
  iapply (wp_store 𝒱₀ (c : Thread nD τ) none Set.univ (m := oM) (r := r2) (Mk := Finset.univ) (Finset.subset_univ _)) $$ Ho; iintro Ho
  rw [wp_ret]; imodintro
  rw [wp_ret]; imodintro
  rw [wp_ret]; imodintro
  rw [read_o, write_o, finish_eq, masked_congr c hw, ← outAt_eq]
  ihave HS := (Entails.of_eq (bigSep_sep' (todo 1) (fun j => (semVal (sendCell c j) 0 : sProp 𝕄)) fun j => totPts m ρ c (shareAt j))) $$ HS
  icases HS with ⟨HzS, Hv⟩
  ihave Hv := (total_join m ρ c) $$ [Hv0 Hv]
  · isplitl [Hv0]; · iexact Hv0
    iexact Hv
  iapply Hk $$ HI [HzB HzS0 HzS HzR0 HzR] [Ha Hv Hc] Hx Ho
  · isplitl [HzB]; · iexact HzB
    isplitl [HzS0 HzS]
    · isplitl [HzS0]; · iexact HzS0
      iexact HzS
    isplitl [HzR0]; · iexact HzR0
    iexact HzR
  · isplitl [Ha]; · iexists _; iexact Ha
    isplitl [Hv]; · iexists _; iexact Hv
    iexists _; iexact Hc

end Cert.Cumprod

end
-- ==== Proof.Data.lean ====
/-
What a device's kernel starts from and ends with, as the launch sees it, and the body proved against that.
-/
module

public import proofs.«01_k».proof.Proof.Body

@[expose] public section

set_option maxRecDepth 16384

noncomputable section

namespace Cert.Cumprod

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
/-- The one grid point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants at some names, and the device's positions and tokens. -/
def ghost (c : Dev nD) : sProp 𝕄 := iprop(∃ K, records m ρ K ∗ tokens c)
/-- What the body starts from, buffers aside. -/
def start (c : Dev nD) : sProp 𝕄 := iprop(ghost m ρ c ∗ credits c ∗ levAts L lv)
def Φ₀ (c : Dev nD) : sProp 𝕄 := iprop(start m ρ c ∗ scratches c)
/-- What it ends with: all semaphores at zero, the scratch buffers at anything. -/
def Φ₁ (c : Dev nD) : sProp 𝕄 := iprop(zeros c ∗ scratches c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => outAt m ρ c
  Φ t := match t with
    | ⟨0, _⟩ => Φ₀ m ρ c
    | ⟨_ + 1, _⟩ => Φ₁ c
  q _ := fullShare
  owed t := match t with
    | ⟨0, _⟩ => owes₀ c
    | ⟨_ + 1, _⟩ => 0

theorem fetch_0 (t : Fin cfg0.N) : (cfg0.win (0 : Fin 2)).fetch t = true := by rw [fin_N t]; rfl

/-- A whole staging buffer at given contents. -/
abbrev holds (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_holds (c : Dev nD) (b : Ref sig .tc) (X : b.ty.Contents (Elt F)) :
    (owns (Ix := Unit) (Name := ℕ) (U := UU) (Lvl := ℕ) (c : Thread nD τ) (Memref.whole b) fullShare X : sProp 𝕄) = holds c b X := by
  unfold owns; simp only [Memref.view_whole, View.read_whole, View.set_whole]

def before (c : Dev nD) : sProp 𝕄 :=
  iprop(Φ₀ m ρ c ∗ (dats m ρ 0 c).owesAt () t₀.castSucc
    ∗ (∃ d, holds c cc0_stg0_0 ((dats m ρ 0 c).before (0 : Fin 2) t₀ d))
    ∗ (∃ d, holds c cc0_stg1_0 ((dats m ρ 0 c).before (1 : Fin 2) t₀ d)))
def after (c : Dev nD) : sProp 𝕄 :=
  iprop(Φ₁ c ∗ (dats m ρ 0 c).owesAt () t₀.succ ∗ holds c cc0_stg0_0 (xAt m ρ c) ∗ holds c cc0_stg1_0 (outAt m ρ c))

/-- The body between the two. -/
theorem body_between (c : Dev nD) :
    before m ρ c ⊢ wp frame (wpE (defs₀ (F := F)) 𝒱₀ (c : Thread nD τ) none) Set.univ (onM (cc0_body (F := F))) fun _ => after m ρ c := by
  unfold before Φ₀ start ghost
  iintro ⟨⟨⟨⟨%K, #HR, Ht⟩, Hc, #Hlev⟩, Hs⟩, Ho, ⟨%d0, %g0, %hg0, Hx⟩, ⟨%d1, %g1, %hg1, Hout⟩⟩
  have hx : g0 = xAt m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owes₀ c from rfl]
  iapply (body_run m ρ K c g1) $$ HR Hlev [HO] Ht Hc Hs Hx Hout
  · iexists W; iexact HO
  iintro HI Hz Hs Hx Hout
  unfold after Φ₁ Dat.owesAt Pipeline.owesWithin idle
  rw [show (dats m ρ 0 c).owed t₀.succ = 0 from rfl]
  icases HI with ⟨%W', HI⟩
  isplitl [Hz Hs]
  · isplitl [Hz]; · iexact Hz
    iexact Hs
  isplitl [HI]
  · iexists W'; isplitr; · ipureintro; exact fun _ _ => Or.inl trivial
    iexact HI
  isplitl [Hx]
  · iexists _; isplitr; · (ipureintro; rfl)
    iexact Hx
  iexists _; isplitr; · (ipureintro; rfl)
  iexact Hout

theorem body_obligation (c : Dev nD) : BodyObligation (dats (F := F) m ρ 0 c) (defs₀ (F := F)) 𝒱₀ () Set.univ := fun t => by
  rw [fin_N t, bigSep_W0, bigSep_W0]
  simp only [owns_holds]
  exact body_between m ρ c

end Cert.Cumprod

end
-- ==== Proof.Launch.lean ====
/-
The launch: the semaphores' counters and the tokens are dealt to the devices, what each is owed is added up, and the
whole program runs to its end with every semaphore back at zero.
-/
module

public import Idealize.ShloMosaic.Lib.Pipeline.CollectiveSegs
public import proofs.«01_k».proof.Proof.Data

@[expose] public section

set_option maxRecDepth 16384

noncomputable section

namespace Cert.Cumprod

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## Cells and tokens -/

/-- Every semaphore of the protocol. -/
def allCells : Finset (GSem nD τ sig) := Finset.univ.map ⟨kcell, kcell_injective⟩

/-- A device's own duties: those of its barrier, then one for each send and receive entry. -/
abbrev DK : Type := Fin 32 ⊕ (Fin 32 ⊕ Fin 32)
def dutyOf : Dev nD × DK → GSem nD τ sig × ℕ × Fin 32
  | (c, .inl j) => (kcell (c, kB), 0, j)
  | (c, .inr (.inl j)) => (kcell (c, kS j), 0, j)
  | (c, .inr (.inr j)) => (kcell (c, kR j), 0, j)
theorem dutyOf_injective : Function.Injective dutyOf := by
  rintro ⟨c, k⟩ ⟨c', k'⟩ h
  have key : ∀ a a' : CK, ∀ j j' : Fin 32, ((kcell (c, a), 0, j) : GSem nD τ sig × ℕ × Fin 32) = (kcell (c', a'), 0, j') → c = c' ∧ a = a' ∧ j = j' := by
    intro a a' j j' e
    have e1 := kcell_injective (congrArg Prod.fst e)
    exact ⟨congrArg Prod.fst e1, congrArg Prod.snd e1, congrArg (fun x => x.2.2) e⟩
  rcases k with j | j | j <;> rcases k' with j' | j' | j' <;> obtain ⟨rfl, h2, rfl⟩ := key _ _ _ _ h <;> first | rfl | cases h2
def allToks : Finset (GSem nD τ sig × ℕ × Fin 32) := Finset.univ.map ⟨dutyOf, dutyOf_injective⟩

def u₀ : UU :=
  (initOf (Pipeline.cells cfgs cellOf_inj) (Pipeline.launchToks cfgs cellOf_inj), initOf allCells allToks)

/-- The tokens of a device's own duties. -/
def ownToks (c : Dev nD) : sProp 𝕄 :=
  iprop((bigSep Finset.univ fun j => dutyTok ER (barCell c) 0 j) ∗ (bigSep Finset.univ fun j => dutyTok ER (sendCell c j) 0 j)
    ∗ bigSep Finset.univ fun j => dutyTok ER (recvCell c j) 0 j)

/-- What the launch's element deals device `c`. -/
def G (c : Dev nD) : sProp 𝕄 :=
  iprop((bigSep Finset.univ fun k : CK => roundState ER (sched m ρ) (kcell (c, k)) 0)
    ∗ (bigSep Finset.univ fun k : CK => iprop(atPos ER (kcell (c, k)) 0 ∅ 0 ∗ reached ER (kcell (c, k)) 0)) ∗ ownToks c)

/-- A conjunction over the kinds, kind by kind. -/
theorem kinds_split (Φ : CK → sProp 𝕄) : bigSep Finset.univ Φ
    = iprop(Φ kB ∗ (bigSep Finset.univ fun j => Φ (kS j)) ∗ bigSep Finset.univ fun j => Φ (kR j)) := by
  rw [bigSep_univ_sum, bigSep_univ_sum, bigSep_univ_of_subsingleton ()]; rfl

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [BI.bigSep_map, bigSep_univ_prod]; rfl
  have hT : bigSep allToks (fun x => (dutyTok ER x.1 x.2.1 x.2.2 : sProp 𝕄)) = bigSep Finset.univ fun c : Dev nD => ownToks c := by
    unfold allToks; rw [BI.bigSep_map, bigSep_univ_prod]
    exact bigSep_congr fun c _ => by unfold ownToks; rw [bigSep_univ_sum, bigSep_univ_sum]; rfl
  iintro HX
  imod (Rounds.fund ER (sched m ρ) allCells allToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## Semaphores -/

theorem ownSems_split (c : Dev nD) : (Pipeline.ownSems0 (Ix := Unit) (Name := ℕ) (U := UU) (Lvl := ℕ) (Val := Elt F) (τ := τ) osem c : sProp 𝕄)
    = iprop((bigSep Finset.univ fun j => semVal (sendCell c j) 0) ∗ bigSep Finset.univ fun j => semVal (recvCell c j) 0) := by
  unfold Pipeline.ownSems0
  rw [bigSep_univ_equiv (finSumFinEquiv (m := 32) (n := 32)), bigSep_univ_sum]
  refine congrArg₂ _ (bigSep_congr fun j _ => ?_) (bigSep_congr fun j _ => ?_)
  · rw [osem_send]; rfl
  · rw [osem_recv]; rfl
theorem unscopedSems_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) : iprop(Pipeline.ownSems0 (Ix := Unit) (Name := ℕ) (U := UU) (Lvl := ℕ) (Val := Elt F) (τ := τ) osem c ∗ unscopedSems0 c)
    ⊢ (bigSep Finset.univ fun k : CK => semVal (kcell (c, k)) 0 : sProp 𝕄) := by
  rw [ownSems_split, unscopedSems_eq, kinds_split]
  iintro ⟨⟨HS, HV⟩, HB⟩
  isplitl [HB]; · iexact HB
  isplitl [HS]; · iexact HS
  iexact HV

/-- Device by device, every counter and its protocol state become an invariant. -/
theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (sched m ρ) κ (kcell (c, k))))
          ∗ (bigSep Finset.univ fun k : CK => iprop(atPos ER (kcell (c, k)) 0 ∅ 0 ∗ reached ER (kcell (c, k)) 0)) ∗ ownToks c) := by
  have hI : iprop((bigSep Finset.univ fun k : CK => semVal (kcell (c, k)) 0) ∗ bigSep Finset.univ fun k : CK => roundState ER (sched m ρ) (kcell (c, k)) 0)
      ⊢ (|={Set.univ}=> bigSep Finset.univ fun k : CK => iprop(∃ κ : ℕ, cellInv ER (sched m ρ) κ (kcell (c, k))) : sProp 𝕄) := by
    rw [← bigSep_sep']
    exact (bigSep_mono fun k _ => (Rounds.body_intro ER (sched m ρ) (kcell (c, k))).trans inv_alloc).trans (bigSep_fupd _ _)
  unfold G
  iintro ⟨Hos, Hus, Hst, Hat, Htok⟩
  ihave Hv := (sems_eq (F := F) c) $$ [Hos Hus]
  · isplitl [Hos] <;> iassumption
  imod hI $$ [Hv Hst] with Hinv
  · isplitl [Hv] <;> iassumption
  imodintro
  isplitl [Hinv]; · iexact Hinv
  isplitl [Hat]; · iexact Hat
  iexact Htok

/-! ## Dealing the tokens -/

/-- Sorted by who pays instead of by whose semaphore it is. -/
theorem deal (e : Fin 32 → Dev nD ≃ Dev nD) (Φ : Dev nD → Fin 32 → sProp 𝕄) :
    (bigSep Finset.univ fun c => bigSep Finset.univ fun j => Φ c j) = bigSep Finset.univ fun c => bigSep Finset.univ fun j => Φ (e j c) j := by
  rw [BI.bigSep_univ_comm, BI.bigSep_univ_comm (fun c j => Φ (e j c) j)]
  exact bigSep_congr fun j _ => bigSep_univ_equiv (e j) fun c => Φ c j

/-- The tokens device `c` pays with, entry 0 included. -/
def payToks (c : Dev nD) : sProp 𝕄 :=
  iprop((bigSep Finset.univ fun j => dutyTok ER (barCell (dn c j)) 0 j) ∗ (bigSep Finset.univ fun j => dutyTok ER (sendCell c j) 0 j)
    ∗ bigSep Finset.univ fun j => dutyTok ER (recvCell (up c j) j) 0 j)

theorem toks_dealt : (bigSep Finset.univ fun c : Dev nD => (ownToks c : sProp 𝕄)) = bigSep Finset.univ fun c : Dev nD => payToks c := by
  unfold ownToks payToks
  rw [bigSep_sep', bigSep_sep', bigSep_sep', bigSep_sep',
    deal (fun j => (shift j).symm) (fun c j => (dutyTok ER (barCell c) 0 j : sProp 𝕄)),
    deal shift (fun c j => (dutyTok ER (recvCell c j) 0 j : sProp 𝕄))]
  rfl

theorem ghost_intro (K : Dev nD × CK → ℕ) (c : Dev nD) :
    iprop(records m ρ K ∗ (bigSep Finset.univ fun k : CK => atPos ER (kcell (c, k)) 0 ∅ 0) ∗ payToks c) ⊢ ghost m ρ c := by
  unfold payToks ghost tokens
  rw [kinds_split, univ_zero fun j => (dutyTok ER (barCell (dn c j)) 0 j : sProp 𝕄), univ_zero fun j => (dutyTok ER (recvCell (up c j) j) 0 j : sProp 𝕄),
    univ_zero fun j => (dutyTok ER (sendCell c j) 0 j : sProp 𝕄)]
  iintro ⟨HR, ⟨HB, HS, HV⟩, ⟨-, H1⟩, ⟨-, H2⟩, ⟨-, H3⟩⟩
  iexists K
  isplitl [HR]; · iexact HR
  isplitl [HB]; · iexact HB
  isplitl [HS]; · iexact HS
  isplitl [HV]; · iexact HV
  isplitl [H1]; · iexact H1
  isplitl [H2]; · iexact H2
  iexact H3

theorem sep_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (sched m ρ) κ (kcell (c, k))))
          ∗ (bigSep Finset.univ fun k : CK => iprop(atPos ER (kcell (c, k)) 0 ∅ 0 ∗ reached ER (kcell (c, k)) 0)) ∗ ownToks c) : sProp 𝕄)
      ⊢ bigSep Finset.univ (ghost m ρ) := by
  rw [bigSep_sep', bigSep_sep', ← bigSep_univ_prod (fun ck : Dev nD × CK => iprop(∃ κ : ℕ, cellInv ER (sched m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_dealt]
  iintro ⟨HI, ⟨Hat, #HR⟩, Htok⟩
  ihave HK := (BI.bigSep_exists_pi Finset.univ (fun (ck : Dev nD × CK) (κ : ℕ) => (cellInv ER (sched m ρ) κ (kcell ck) : sProp 𝕄))) $$ HI
  icases HK with ⟨%K, #HI⟩
  iapply (sep_each (R := records m ρ K) fun c _ => ghost_intro m ρ K c)
  isplitr
  · unfold records; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => alloc m ρ c).trans (bigSep_fupd _ _)).trans (BI.fupd_mono (regroup m ρ))

/-! ## What is owed to each semaphore -/

theorem bar_ne_recv (c d : Dev nD) (j : Fin 32) : barCell c ≠ recvCell d j := fun h => by cases congrArg Prod.snd h
theorem bar_eq_iff {a b : Dev nD} : Iff (barCell a = barCell b) (a = b) := ⟨fun h => congrArg (fun g : GSem nD τ sig => g.1.1) h, fun h => h ▸ rfl⟩
theorem recv_eq_iff {a b : Dev nD} {i j : Fin 32} : Iff (recvCell a i = recvCell b j) (a = b ∧ i = j) :=
  ⟨fun h => by
    have e := kcell_injective (a₁ := (a, kR i)) (a₂ := (b, kR j)) h
    exact ⟨congrArg Prod.fst e, Sum.inr.inj (Sum.inr.inj (congrArg Prod.snd e))⟩, fun h => by rw [h.1, h.2]⟩

theorem owed_bar (d c : Dev nD) : owes₀ d (barCell c) () = ∑ j ∈ todo 1, if d = up c j then 1 else 0 := by
  unfold owes₀ owesR owesB
  rw [Pi.add_apply, Finsupp.add_apply, Finset.sum_apply, Finsupp.finset_sum_apply, Finset.sum_apply, Finsupp.finset_sum_apply,
    Finset.sum_eq_zero (fun j _ => by rw [tallyAt_ne_cell (bar_ne_recv c (up d j) j)]; rfl), Nat.zero_add]
  refine Finset.sum_congr rfl fun j _ => ?_
  rw [tallyAt_apply]
  exact if_congr ⟨fun h => dn_eq_iff.mp (bar_eq_iff.mp h.1).symm, fun h => ⟨bar_eq_iff.mpr (dn_eq_iff.mpr h).symm, rfl⟩⟩ rfl rfl

theorem owed_recv (d c : Dev nD) {j : Fin 32} (hj : j ∈ todo 1) : owes₀ d (recvCell c j) () = if d = dn c j then N else 0 := by
  unfold owes₀ owesR owesB
  rw [Pi.add_apply, Finsupp.add_apply, Finset.sum_apply, Finsupp.finset_sum_apply, Finset.sum_apply, Finsupp.finset_sum_apply,
    Finset.sum_eq_zero (s := todo 1) (f := fun i => (tallyAt (barCell (dn d i)) () 1 : CellTallies nD τ sig Unit) (recvCell c j) ())
      (fun i _ => by rw [tallyAt_ne_cell (bar_ne_recv (dn d i) c j).symm]; rfl), Nat.add_zero,
    Finset.sum_eq_single_of_mem j hj fun i _ hi => by
      rw [tallyAt_apply]; exact if_neg fun h => hi (recv_eq_iff.mp h.1).2.symm]
  rw [tallyAt_apply]
  exact if_congr ⟨fun h => up_eq_iff.mp (recv_eq_iff.mp h.1).1.symm, fun h => ⟨recv_eq_iff.mpr ⟨(up_eq_iff.mpr h).symm, rfl⟩, rfl⟩⟩ rfl rfl

theorem launch_bar (c : Dev nD) :
    tallyOn (barCell c) (launchCredit (Pipeline.owing owes₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (up c j) fun _ => 1).trans (if_pos (Finset.mem_univ _))]
  decide
theorem launch_recv (c : Dev nD) {j : Fin 32} (hj : j ∈ todo 1) :
    tallyOn (recvCell c j) (launchCredit (Pipeline.owing owes₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c hj,
    Finset.sum_ite_eq' Finset.univ (dn c j) fun _ => N, if_pos (Finset.mem_univ _)]

theorem recvS_injective : Function.Injective fun j : Fin 32 => (SemLoc.dma (recvS j) : SemLoc sig) := fun i j h =>
  Sum.inr.inj (Sum.inr.inj (csem_injective (a₁ := kR i) (a₂ := kR j) h))

theorem creds (c : Dev nD) : (Pipeline.launchCred owes₀ c : sProp 𝕄) ⊢ credits c := by
  unfold Pipeline.launchCred credits
  rw [bigSep_univ_at _ (SemLoc.reg barS), launch_bar]
  refine sep_mono_right ?_
  have hs : (todo 1).map ⟨fun j : Fin 32 => (SemLoc.dma (recvS j) : SemLoc sig), recvS_injective⟩ ⊆ Finset.univ.erase (SemLoc.reg barS) := by
    intro x hx
    obtain ⟨j, -, rfl⟩ := Finset.mem_map.mp hx
    exact Finset.mem_erase.mpr ⟨(fun h => by cases h), Finset.mem_univ _⟩
  refine BIBase.Entails.trans (bigSep_subset hs) (Entails.of_eq ?_)
  rw [BI.bigSep_map]
  exact bigSep_congr fun j hj => congrArg _ (launch_recv c hj)

/-! ## The run -/

theorem start_intro (c : Dev nD) :
    iprop(Pipeline.unscopedRestP Pipeline.Prefetch.none cfg0.spec c (fun b => m ((c : Thread nD τ).loc b)) ∗ levAts L lv
        ∗ Pipeline.launchCred owes₀ c ∗ prngReg c (ρ c) ∗ ghost m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem scratches_eq (c : Dev nD) : (Pipeline.scopedRest cfg0.spec c : sProp 𝕄) = scratches c := by
  unfold scratches; exact scopedRest0_eq c

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratches_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratches_eq, ownSems_split, unscopedSems_eq]
  unfold Φ₁ zeros
  iintro ⟨⟨HzB, HzS, HzV⟩, Hr⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The arrays at the end. -/
def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

/-- From any memory and zero counters, for any float values: every run of the program ends, with the arrays as stated
    on every device and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owes₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand is untouched. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Cumprod

end
-- ==== Proof.Frames.lean ====
/-
The three frames: every run of the kernel, at either number format, and every run of the reference ends with its argument
unchanged and every semaphore at zero.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 16384

noncomputable section

namespace Cert.Cumprod

open Idealize.ShloMosaic Idealize.ShloMosaic.TcCoe
open Idealize.SL.Sem

variable {F : FTy → Type} [FloatOps F]

section Kernel

open Cert.KernelIdeal Cert.KernelIdeal.Gen

/-- After the kernel's run each device's argument is what it was. -/
theorem arg_kept (m : (ℓ : Loc nD τ sig) → Buf (Elt F) ℓ) (ρ : Dev nD → PrngReg) (r : PUnit × MemSt nD τ sig (Elt F)) (h : QC m ρ r) (c : Dev nD) :
    r.2.mem ((c.tc : Thread nD τ).loc main_arg0) = m ((c.tc : Thread nD τ).loc main_arg0) :=
  (h c (0 : Fin 2)).trans (finalA_x m ρ c)

/-- The kernel's frame, over any float values. -/
theorem frame_any (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun r h => ⟨arg_kept m ρ r h.1, h.2⟩) (run_main m ρ)

/-- The kernel's frame, over exact numbers. -/
theorem frame_ideal : Cert.quiescent_KernelIdeal := fun m ρ _ => frame_any (F := Ideal) m ρ

/-- The two programs have one text: the tables of their kernels' bodies agree, -/
theorem bodies_eq [Cert.Kernel.Facts] : Cert.Kernel.defs₀ (F := F) = defs₀ (F := F) := by
  unfold Cert.Kernel.defs₀ defs₀
  refine congrArg (Defs.onTc (nD := nD) (τ := τ) (sig := sig) (Val := Elt F) (Λ := Λ₀)) ?_
  funext l a
  match l, a with
  | 0, (t, s) => rfl
  | ⟨_ + 1, h⟩, _ => exact absurd h (by omega)

/-- and so do their whole tables. -/
theorem tables_eq [Cert.Kernel.Facts] : Cert.Kernel.defs (F := F) = defs (F := F) :=
  congrArg (Pipeline.defs (pcfgs (F := F))) bodies_eq

/-- The kernel's frame, over machine numbers. -/
theorem frame_kernel : Cert.quiescent_Kernel := fun m ρ _ =>
  (congrArg (fun d => θ_run d (onTc (τ := τ) (main (F := Bits))) ⟨m, fun _ => 0, ρ⟩ (fun r =>
    (∀ c : Dev nD, r.2.mem ((c.tc : Thread nD τ).loc main_arg0) = m ((c.tc : Thread nD τ).loc main_arg0)) ∧ r.2.sem = fun _ => 0))
    (tables_eq (F := Bits))).mpr (frame_any (F := Bits) m ρ)

end Kernel

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) _⟩)
    (Cert.ReferenceIdeal.Value.run (F := Ideal) m ρ)

end Cert.Cumprod

end
-- ==== Proof.Columns.lean ====
/-
Products down the columns of a block of 512 columns, over exact numbers. `col f y k` is the entry of column `y` in row `k`, and one
past the last row; so a product over the first rows is a product over a range of natural numbers.
-/
module

public import Idealize.ShloMosaic.PureOps.Ideal
public import Idealize.ShloMosaic.Lib.Pipeline.Value
public import Mathlib.Algebra.BigOperators.Intervals

@[expose] public section

noncomputable section

namespace Cert.Cumprod

open Idealize.ShloMosaic

/-- The shape of `n` rows. -/
abbrev rows (n : ℕ) : Shape := ⟨2, ![n, 512]⟩

/-- The entry of column `y` in row `k`. -/
def col {n : ℕ} (f : (rows n).Idx → EReal) (y : Fin 512) (k : ℕ) : EReal :=
  if h : k < n then f (Shape.pair (d := ![n, 512]) ⟨k, h⟩ y) else 1

theorem col_lt {n : ℕ} (f : (rows n).Idx → EReal) (y : Fin 512) {k : ℕ} (h : k < n) :
    col f y k = f (Shape.pair (d := ![n, 512]) ⟨k, h⟩ y) := dif_pos h

theorem col_at {n : ℕ} (f : (rows n).Idx → EReal) (i : (rows n).Idx) : col f (i 1) (i 0).val = f i := by
  rw [col_lt f (i 1) (i 0).isLt]
  exact congrArg f (Shape.pair_eta i)

/-- The product of the rows `a` up to `b`, that one left out. -/
def run {n : ℕ} (f : (rows n).Idx → EReal) (y : Fin 512) (a b : ℕ) : EReal := ∏ k ∈ Finset.Ico a b, col f y k

theorem run_zero {n : ℕ} (f : (rows n).Idx → EReal) (y : Fin 512) (b : ℕ) : run f y 0 b = ∏ k ∈ Finset.range b, col f y k := by
  unfold run; rw [Finset.range_eq_Ico]

theorem run_one {n : ℕ} (f : (rows n).Idx → EReal) (i : (rows n).Idx) : run f (i 1) (i 0).val ((i 0).val + 1) = f i := by
  unfold run; rw [Nat.Ico_succ_singleton, Finset.prod_singleton, col_at]

/-! ## One step of doubling -/

/-- One step at distance `s`: from row `s` on, each row is multiplied by the one `s` rows above. -/
def stepped {n : ℕ} (s : ℕ) (f : (rows n).Idx → EReal) (i : (rows n).Idx) : EReal :=
  if (i 0).val < s then f i else f i * col f (i 1) ((i 0).val - s)

/-- Rows that hold the products of the last `s` rows become the products of the last `2 s`. -/
theorem stepped_run {n : ℕ} (s : ℕ) (g f : (rows n).Idx → EReal)
    (hf : ∀ i, f i = run g (i 1) ((i 0).val + 1 - s) ((i 0).val + 1)) (i : (rows n).Idx) :
    stepped s f i = run g (i 1) ((i 0).val + 1 - (s + s)) ((i 0).val + 1) := by
  unfold stepped
  have hi : (i 0).val < n := (i 0).isLt
  by_cases h : (i 0).val < s
  · rw [if_pos h, hf i, show (i 0).val + 1 - s = (i 0).val + 1 - (s + s) by omega]
  · rw [if_neg h, hf i, col_lt f (i 1) (show (i 0).val - s < n by omega), hf]
    show run g (i 1) ((i 0).val + 1 - s) ((i 0).val + 1) * run g (i 1) ((i 0).val - s + 1 - s) ((i 0).val - s + 1) = _
    unfold run
    rw [mul_comm, show (i 0).val - s + 1 = (i 0).val + 1 - s by omega,
      Finset.prod_Ico_consecutive _ (by omega) (by omega), show (i 0).val + 1 - s - s = (i 0).val + 1 - (s + s) by omega]

/-! ## Halving -/

/-- The upper half of the rows times the lower half. -/
def halved {h : ℕ} (f : (rows (h + h)).Idx → EReal) (j : (rows h).Idx) : EReal :=
  col f (j 1) (j 0).val * col f (j 1) (h + (j 0).val)

/-- Halving keeps the product of all the rows. -/
theorem halved_prod {h : ℕ} (f : (rows (h + h)).Idx → EReal) (y : Fin 512) : run (halved f) y 0 h = run f y 0 (h + h) := by
  rw [run_zero, run_zero, Finset.prod_range_add, ← Finset.prod_mul_distrib]
  refine Finset.prod_congr rfl fun k hk => ?_
  rw [col_lt _ _ (Finset.mem_range.mp hk)]
  rfl

/-! ## Blocks -/

/-- The product of the first `c · n + r` rows is that of the first `c` blocks of `n` rows times that of the next `r` rows. -/
theorem blocks_prod (g : ℕ → EReal) (n c r : ℕ) :
    ∏ k ∈ Finset.range (c * n + r), g k
      = (∏ d ∈ Finset.range c, ∏ k ∈ Finset.range n, g (d * n + k)) * ∏ k ∈ Finset.range r, g (c * n + k) := by
  rw [Finset.prod_range_add]
  congr 1
  induction c with
  | zero => simp
  | succ c ih => rw [Finset.prod_range_succ, ← ih, Nat.succ_mul, Finset.prod_range_add]

end Cert.Cumprod

end
-- ==== Proof.Prefix.lean ====
/-
What the kernel's own arithmetic leaves, over exact numbers: the ten steps turn the rows into the products of all rows up to them,
and the two halving trees give the product of all the rows they start from.
-/
module

public import Idealize.ShloMosaic.Lib.WritesUnit
public import proofs.«01_k».proof.Proof.Columns
public import proofs.«01_k».proof.Proof.Body

@[expose] public section

set_option maxRecDepth 16384

noncomputable section

namespace Cert.Cumprod

open Cert.KernelIdeal Cert.KernelIdeal.Gen
open Idealize.ShloMosaic Idealize.ShloMosaic.TcCoe

/-! ## The ten steps -/

/-- A step that reads the first `n` rows and rewrites the last `n`, `s` rows apart, by a product is a step at distance `s`. -/
theorem scanWith_stepped (s n : ℕ) (hn : s + n = 1024) (hlo : ∀ a, (![0, 0] : Fin 2 → ℕ) a + (![n, 512] : Fin 2 → ℕ) a ≤ S1024x512.size a)
    (hhi : ∀ a, (![s, 0] : Fin 2 → ℕ) a + (![n, 512] : Fin 2 → ℕ) a ≤ S1024x512.size a)
    (op : ((rows n).Idx → EReal) → ((rows n).Idx → EReal) → (rows n).Idx → EReal) (hop : ∀ a b j, op a b j = b j * a j)
    (f : S1024x512.Idx → EReal) :
    scanWith (F := Ideal) (Rect.unit (s := S1024x512) ![0, 0] ![n, 512] hlo) (Rect.unit (s := S1024x512) ![s, 0] ![n, 512] hhi) op f
      = stepped (n := 1024) s f := by
  funext i
  have hi : (i 0).val < 1024 := (i 0).isLt
  unfold stepped
  by_cases h : (i 0).val < s
  · rw [if_pos h]
    exact View.read_writes_cons_rows_of_not_mem (Val := Elt Ideal) (aM.view) f (W := n) hhi _ [] i rfl rfl (Or.inl h)
  · rw [if_neg h]
    have hx : (i 0).val - s < n := by omega
    refine (View.read_writes_cons_rows_of_mem (Val := Elt Ideal) (aM.view) f (o := s) hhi _ [] i
      (Shape.pair (d := ![n, 512]) ⟨(i 0).val - s, hx⟩ (i 1)) rfl (show (i 0).val = s + ((i 0).val - s) by omega) rfl).trans ?_
    refine (hop _ _ _).trans ?_
    rw [col_lt f (i 1) (show (i 0).val - s < 1024 by omega)]
    refine congrArg₂ (· * ·) (congrArg f ?_) (congrArg f ?_)
    · funext a
      refine Fin.ext ?_
      revert a
      exact Fin.forall_fin_two.mpr ⟨show s + 1 * ((i 0).val - s) = (i 0).val by omega, show 0 + 1 * (i 1).val = (i 1).val by omega⟩
    · funext a
      refine Fin.ext ?_
      revert a
      exact Fin.forall_fin_two.mpr ⟨show 0 + 1 * ((i 0).val - s) = (i 0).val - s by omega, show 0 + 1 * (i 1).val = (i 1).val by omega⟩

/-- The product of two blocks, recast to its own shape. -/
theorem recast_mul {s : Shape} (h : s.ShapeCasts s) (a b : s.Idx → EReal) (j : s.Idx) :
    shapeCast s (mulf (F := Ideal) (φ := .f32) b a) h j = b j * a j := by
  rw [shapeCast_self]; rfl

/-- After the ten steps each row is the product of all the rows up to it. -/
theorem scanned_run (f : S1024x512.Idx → EReal) (i : S1024x512.Idx) :
    scanned (F := Ideal) f i = run (n := 1024) f (i 1) 0 ((i 0).val + 1) := by
  have e0 : ∀ i : S1024x512.Idx, f i = run (n := 1024) f (i 1) ((i 0).val + 1 - 1) ((i 0).val + 1) := fun i => (run_one (n := 1024) f i).symm
  have e1 := stepped_run (n := 1024) 1 f f e0
  have e2 := stepped_run (n := 1024) 2 f _ e1
  have e4 := stepped_run (n := 1024) 4 f _ e2
  have e8 := stepped_run (n := 1024) 8 f _ e4
  have e16 := stepped_run (n := 1024) 16 f _ e8
  have e32 := stepped_run (n := 1024) 32 f _ e16
  have e64 := stepped_run (n := 1024) 64 f _ e32
  have e128 := stepped_run (n := 1024) 128 f _ e64
  have e256 := stepped_run (n := 1024) 256 f _ e128
  have e512 := stepped_run (n := 1024) 512 f _ e256
  unfold scanned scanned8 scan1 scan2 scan4 scan8 scan16 scan32 scan64 scan128 scan256 scan512
  rw [scanWith_stepped 1 1023 rfl, scanWith_stepped 2 1022 rfl, scanWith_stepped 4 1020 rfl, scanWith_stepped 8 1016 rfl,
    scanWith_stepped 16 1008 rfl, scanWith_stepped 32 992 rfl, scanWith_stepped 64 960 rfl, scanWith_stepped 128 896 rfl,
    scanWith_stepped 256 768 rfl, scanWith_stepped 512 512 rfl]
  · have hi : (i 0).val < 1024 := (i 0).isLt
    rw [show (0 : ℕ) = (i 0).val + 1 - (512 + 512) by omega]
    exact e512 i
  all_goals exact fun a b j => recast_mul _ a b j

/-! ## The halving trees -/

/-- The upper half of the rows times the lower half, as the kernel takes it. -/
def halve (h : ℕ) (hlo : (rows (h + h)).Slices ![0, 0] (rows h)) (hhi : (rows (h + h)).Slices ![h, 0] (rows h))
    (f : (rows (h + h)).Idx → EReal) : (rows h).Idx → EReal :=
  mulf (F := Ideal) (φ := .f32) (extractStridedSlice (rows h) ![0, 0] f hlo) (extractStridedSlice (rows h) ![h, 0] f hhi)

theorem halve_eq (h : ℕ) (hlo : (rows (h + h)).Slices ![0, 0] (rows h)) (hhi : (rows (h + h)).Slices ![h, 0] (rows h))
    (f : (rows (h + h)).Idx → EReal) : halve h hlo hhi f = halved f := by
  funext j
  have hj : (j 0).val < h := (j 0).isLt
  unfold halved
  rw [col_lt f (j 1) (show (j 0).val < h + h by omega), col_lt f (j 1) (show h + (j 0).val < h + h by omega)]
  refine congrArg₂ (· * ·) (congrArg f ?_) (congrArg f ?_)
  · funext a
    refine Fin.ext ?_
    revert a
    exact Fin.forall_fin_two.mpr ⟨show 0 + (j 0).val = (j 0).val by omega, show 0 + (j 1).val = (j 1).val by omega⟩
  · funext a
    refine Fin.ext ?_
    revert a
    exact Fin.forall_fin_two.mpr ⟨rfl, show 0 + (j 1).val = (j 1).val by omega⟩

/-- The one row of a block of one row. -/
theorem run_single (f : (rows 1).Idx → EReal) (y : Fin 512) : run f y 0 1 = f (Shape.pair (d := ![1, 512]) ⟨0, Nat.one_pos⟩ y) := by
  rw [run_zero, Finset.prod_range_one, col_lt f y Nat.one_pos]

/-- Five halvings of 32 rows, as the kernel takes them. -/
def tree32 (f : S32x512.Idx → EReal) : S1x512.Idx → EReal :=
  halve 1 slices_S2x512_o0_0_S1x512 slices_S2x512_o1_0_S1x512 (halve 2 slices_S4x512_o0_0_S2x512 slices_S4x512_o2_0_S2x512
    (halve 4 slices_S8x512_o0_0_S4x512 slices_S8x512_o4_0_S4x512 (halve 8 slices_S16x512_o0_0_S8x512 slices_S16x512_o8_0_S8x512
      (halve 16 slices_S32x512_o0_0_S16x512 slices_S32x512_o16_0_S16x512 f))))

/-- Five halvings of 1024 rows, as the kernel takes them. -/
def tree1024 (f : S1024x512.Idx → EReal) : S32x512.Idx → EReal :=
  halve 32 slices_S64x512_o0_0_S32x512 slices_S64x512_o32_0_S32x512 (halve 64 slices_S128x512_o0_0_S64x512 slices_S128x512_o64_0_S64x512
    (halve 128 slices_S256x512_o0_0_S128x512 slices_S256x512_o128_0_S128x512 (halve 256 slices_S512x512_o0_0_S256x512 slices_S512x512_o256_0_S256x512
      (halve 512 slices_S1024x512_o0_0_S512x512 slices_S1024x512_o512_0_S512x512 f))))

/-- Five halvings of 32 rows leave the product of the 32. -/
theorem tree32_prod (f : S32x512.Idx → EReal) (y : Fin 512) :
    tree32 f (Shape.pair (d := ![1, 512]) ⟨0, Nat.one_pos⟩ y) = run (n := 32) f y 0 32 := by
  unfold tree32
  rw [halve_eq, halve_eq, halve_eq, halve_eq, halve_eq]
  exact (run_single _ y).symm.trans ((halved_prod (h := 1) _ y).trans ((halved_prod (h := 2) _ y).trans ((halved_prod (h := 4) _ y).trans
    ((halved_prod (h := 8) _ y).trans (halved_prod (h := 16) f y)))))

/-- Five halvings of 1024 rows to 32 keep the product. -/
theorem tree1024_prod (f : S1024x512.Idx → EReal) (y : Fin 512) : run (n := 32) (tree1024 f) y 0 32 = run (n := 1024) f y 0 1024 := by
  unfold tree1024
  rw [halve_eq, halve_eq, halve_eq, halve_eq, halve_eq]
  exact (halved_prod (h := 32) _ y).trans ((halved_prod (h := 64) _ y).trans ((halved_prod (h := 128) _ y).trans
    ((halved_prod (h := 256) _ y).trans (halved_prod (h := 512) f y))))

theorem product_tree (x : S1024x512.Idx → EReal) : k0_pay3 (F := Ideal) x = tree32 (tree1024 (k0_pay1 (F := Ideal) x)) := rfl

/-- Widening changes nothing. -/
theorem widened (x : S1024x512.Idx → EReal) : k0_pay1 (F := Ideal) x = x := by
  unfold k0_pay1; rw [shapeCast_self]; rfl
theorem widened_again (x : S1024x512.Idx → EReal) : k0_pay2 (F := Ideal) x = x := by
  unfold k0_pay2; rw [shapeCast_self]; exact widened x

/-- The product of all a device's rows. -/
theorem total_prod (x : S1024x512.Idx → EReal) (y : Fin 512) :
    totalOf (F := Ideal) x (Shape.pair (d := ![1, 512]) ⟨0, Nat.one_pos⟩ y) = run (n := 1024) x y 0 1024 := by
  unfold totalOf k0_pay4
  rw [shapeCast_self, product_tree, tree32_prod, tree1024_prod, widened]

theorem finish_tree (w : S32x512.Idx → EReal) (o : S1024x512.Idx → EReal) :
    finish (F := Ideal) w o = mulf (F := Ideal) (φ := .bf16) (shapeCast S1024x512 o shapeCasts_S1024x512_S1024x512)
      (broadcastTo S1024x512 (truncf (F := Ideal) (φ := .f32) .bf16 (tree32 (select (fun _ => 1#1) w w)) bitsLt_bf16_f32) broadcasts_S1x512_S1024x512) := rfl

/-- The result from the masked slots and a device's running products. -/
theorem finish_prod (w : S32x512.Idx → EReal) (o : S1024x512.Idx → EReal) (i : S1024x512.Idx) :
    finish (F := Ideal) w o i = o i * run (n := 32) w (i 1) 0 32 := by
  rw [finish_tree, shapeCast_self]
  refine congrArg (o i * ·) ?_
  refine (broadcastTo_apply _ _ i (Shape.pair (d := ![1, 512]) ⟨0, Nat.one_pos⟩ (i 1)) ?_).trans (tree32_prod _ (i 1))
  exact Fin.forall_fin_two.mpr ⟨rfl, rfl⟩

end Cert.Cumprod

end
-- ==== Proof.Arrays.lean ====
/-
The two arrays of a device as wholes: what the kernel reads is the device's argument, and what it leaves in the result array is
the block its body wrote.
-/
module

public import Idealize.ShloMosaic.Lib.Pipeline.ValueKit.Geometry
public import proofs.«01_k».proof.Proof.Launch

@[expose] public section

set_option maxRecDepth 16384

noncomputable section

namespace Cert.Cumprod

open Cert.KernelIdeal Cert.KernelIdeal.Gen
open Idealize.ShloMosaic Idealize.ShloMosaic.TcCoe

variable {F : FTy → Type} [FloatOps F] (m : (ℓ : Loc nD τ sig) → Buf (Elt F) ℓ) (ρ : Dev nD → PrngReg)

/-- What a device reads is its argument. -/
theorem xAt_eq (c : Dev nD) : xAt m ρ c = m ((c : Thread nD τ).loc main_arg0) := by
  funext i
  unfold xAt
  show m ((c : Thread nD τ).loc main_arg0) ((win0_0.blk (0 : Fin 1)).view.emb i) = _
  congr 1
  funext a
  apply Fin.ext
  match a with
  | ⟨0, _⟩ => blk_simp; rw [show win0_0.index (0 : Fin 1) 0 = 0 from by decide +kernel]; omega
  | ⟨1, _⟩ => blk_simp; rw [show win0_0.index (0 : Fin 1) 1 = 0 from by decide +kernel]; omega

/-- What the run leaves in a device's result array is what its body wrote. -/
theorem finalA_out (c : Dev nD) : finalA m ρ c (1 : Fin 2) = outAt m ρ c := by
  unfold finalA
  refine (dats m ρ 0 c).arrAt_eq_of_after_last (1 : Fin 2) t₀ (by decide +kernel) _ fun j => ?_
  rfl

end Cert.Cumprod

end
-- ==== Proof.Values.lean ====
/-
What the kernel leaves on a device over exact numbers: the products, column by column, of all rows of the whole array up to each of
the device's own.
-/
module

public import proofs.«01_k».proof.Proof.Prefix
public import proofs.«01_k».proof.Proof.Arrays

@[expose] public section

set_option maxRecDepth 16384

noncomputable section

namespace Cert.Cumprod

open Cert.KernelIdeal Cert.KernelIdeal.Gen
open Idealize.ShloMosaic Idealize.ShloMosaic.TcCoe

/-! ## The devices before one -/

/-- Going back as far as one went back leads home: the slots of a device name every device once. -/
theorem dn_dn (c j : Fin 32) : dn c (dn c j) = j := by
  have hc := c.isLt
  have hj := j.isLt
  apply Fin.ext; simp only [dn]; omega

theorem dn_bijective (c : Fin 32) : Function.Bijective (dn c : Fin 32 → Fin 32) :=
  Function.Involutive.bijective (dn_dn c)

/-- The product over the slots of what earlier devices put there is the product over the earlier devices. -/
theorem slots_prod (c : Fin 32) (T : ℕ → EReal) :
    (∏ j : Fin 32, if (dn c j).val < c.val then T (dn c j).val else 1) = ∏ d ∈ Finset.range c.val, T d := by
  rw [(dn_bijective c).prod_comp (fun d : Fin 32 => if d.val < c.val then T d.val else 1),
    Fin.prod_univ_eq_prod_range (fun d => if d < c.val then T d else 1) 32, ← Finset.prod_filter]
  refine Finset.prod_congr (Finset.ext fun d => ?_) fun _ _ => rfl
  have hc := c.isLt
  simp only [Finset.mem_filter, Finset.mem_range]; omega

theorem one_word : (Scalar.ofBits .f32 0x3F800000#32 : Ideal .f32) = 1 := by
  show Ideal.ofBits .f32 0x3F800000#32 = 1
  simp [Ideal.ofBits, Ideal.ieee, -EReal.coe_mul]; norm_num

variable (m : (ℓ : Loc nD τ sig) → Buf (Elt Ideal) ℓ) (ρ : Dev nD → PrngReg)

/-- The totals that enter on device `c` multiply to the product of all rows of the devices before it. -/
theorem entering_prod (c : Dev nD) (y : Fin 512) (T : ℕ → EReal)
    (hT : ∀ d : Dev nD, run (n := 1024) (xAt m ρ d) y 0 1024 = T d.val) :
    run (n := 32) (masked c (landed m ρ c)) y 0 32 = ∏ d ∈ Finset.range c.val, T d := by
  refine (run_zero _ _ _).trans (.trans ?_ (slots_prod c T))
  refine (Fin.prod_univ_eq_prod_range (fun k => col (n := 32) (masked c (landed m ρ c)) y k) 32).symm.trans ?_
  refine Finset.prod_congr rfl fun j _ => ?_
  refine (col_lt _ y j.isLt).trans ((masked_at c _ _).trans ?_)
  show (if (dn c j).val < c.val then landed m ρ c (slotIx j y) else _) = _
  split
  · refine .trans ?_ (hT (dn c j))
    refine .trans ?_ (total_prod (xAt m ρ (dn c j)) y)
    show totalOf (xAt m ρ (dn c j)) (rowIx y) = _
    congr 1
    funext a
    match a with
    | ⟨0, _⟩ => rfl
    | ⟨1, _⟩ => rfl
  · exact one_word

theorem narrowed (x : S1024x512.Idx → EReal) : k0_pay16 (F := Ideal) x = x := by unfold k0_pay16; rfl

/-- The ten steps leave at a row the product of the device's own rows up to it. -/
theorem steps_prod (x : S1024x512.Idx → EReal) (i : S1024x512.Idx) :
    k0_pay16 (F := Ideal) (scanned (k0_pay2 (F := Ideal) x)) i = run (n := 1024) x (i 1) 0 ((i 0).val + 1) := by
  rw [narrowed, widened_again]
  exact scanned_run x i

/-- What device `c` leaves at a row: the product of all rows of `X` up to that row of the device's block, where the devices hold
the blocks of `X` in their order. -/
theorem outAt_prod (X : (rows 32768).Idx → EReal)
    (hX : ∀ (d : Dev nD) (y : Fin 512) (k : ℕ), k < 1024 → col (n := 1024) (xAt m ρ d) y k = col X y (d.val * 1024 + k))
    (c : Dev nD) (i : S1024x512.Idx) :
    outAt m ρ c i = run X (i 1) 0 (c.val * 1024 + ((i 0).val + 1)) := by
  have hi : (i 0).val < 1024 := (i 0).isLt
  unfold outAt accAt
  refine (finish_prod _ _ i).trans ?_
  have hacc := steps_prod (xAt m ρ c) i
  have hent := entering_prod m ρ c (i 1) (fun d => ∏ k ∈ Finset.range 1024, col X (i 1) (d * 1024 + k)) fun d =>
    (run_zero _ _ _).trans (Finset.prod_congr rfl fun k hk => hX d (i 1) k (Finset.mem_range.mp hk))
  refine (congrArg₂ (· * ·) hacc hent).trans ?_
  refine .trans ?_ ((run_zero _ _ _).trans (blocks_prod (col X (i 1)) 1024 c.val ((i 0).val + 1))).symm
  refine (mul_comm _ _).trans (congrArg₂ (· * ·) rfl ?_)
  refine (run_zero _ _ _).trans (Finset.prod_congr rfl fun k hk => hX c (i 1) k ?_)
  have := Finset.mem_range.mp hk
  omega

end Cert.Cumprod

end
-- ==== Proof.RefValue.lean ====
/-
What the reference leaves over exact numbers: its loop multiplies the rows one after another into a running product and writes that
product at each row, so that after all trips each row holds the product, column by column, of all rows up to it.
-/
module

public import Idealize.ShloMosaic.PureOps.Ideal
public import Idealize.ShloMosaic.Lib.Pipeline.Value
public import Idealize.ShloMosaic.Lib.DynamicIndex
public import Idealize.ShloMosaic.Lib.Pointwise.ShapeOpsCore
public import proofs.«01_k».proof.Proof.Columns
public import proofs.«01_k».proof.Proof.Gen.ReferenceIdeal.Run

@[expose] public section

set_option maxRecDepth 16384

noncomputable section

namespace Cert.Cumprod

open Idealize.ShloMosaic Idealize.ShloMosaic.TcCoe

/-- The products of all rows up to each: the result asked for. -/
def prefixOf (X : (rows 32768).Idx → EReal) : (rows 32768).Idx → EReal := fun i => run X (i 1) 0 ((i 0).val + 1)

/-! ## One row read, one row written -/

/-- Cutting the row at place `k` out of an array of rows. -/
theorem cut_row {α : Type} (X : (rows 32768).Idx → α) (start : Fin 2 → Int) (h : (rows 32768).Slices (fun _ => 0) (rows 1)) (k : Fin 32768)
    (h0 : start 0 = (k.val : Int)) (h1 : start 1 = ((0 : ℕ) : Int)) (y : Fin 512) :
    Host.dynamicSlice (rows 1) X start h (Shape.pair (d := ![1, 512]) ⟨0, Nat.one_pos⟩ y) = X (Shape.pair (d := ![32768, 512]) k y) := by
  have hk := k.isLt
  rw [Host.dynamicSlice_apply]
  refine congrArg X (funext fun a => Fin.ext ?_)
  match a with
  | ⟨0, _⟩ =>
    show Host.clampedStart (rows 32768) (rows 1) h.1 start 0 + 0 = k.val
    rw [Host.clampedStart_of_le h.1 start 0 k.val h0 (show k.val + 1 ≤ 32768 by omega)]
    omega
  | ⟨1, _⟩ =>
    show Host.clampedStart (rows 32768) (rows 1) h.1 start 1 + y.val = y.val
    rw [Host.clampedStart_of_le h.1 start 1 0 h1 (show 0 + 512 ≤ 512 by omega)]
    omega

/-- Putting a row at place `k` of an array of rows. -/
theorem put_row {α : Type} (G : (rows 32768).Idx → α) (u : (rows 1).Idx → α) (start : Fin 2 → Int)
    (h : (rows 32768).Slices (fun _ => 0) (rows 1)) (k : Fin 32768) (h0 : start 0 = (k.val : Int)) (h1 : start 1 = ((0 : ℕ) : Int))
    (i : (rows 32768).Idx) :
    Host.dynamicUpdateSlice G u start h i
      = if (i 0).val = k.val then u (Shape.pair (d := ![1, 512]) ⟨0, Nat.one_pos⟩ (i 1)) else G i := by
  have hk := k.isLt
  have c0 : Host.clampedStart (rows 32768) (rows 1) h.1 start 0 = k.val :=
    Host.clampedStart_of_le h.1 start 0 k.val h0 (show k.val + 1 ≤ 32768 by omega)
  have c1 : Host.clampedStart (rows 32768) (rows 1) h.1 start 1 = 0 :=
    Host.clampedStart_of_le h.1 start 1 0 h1 (show 0 + 512 ≤ 512 by omega)
  rw [Host.dynamicUpdateSlice_apply]
  split
  · rename_i hin
    have a0 : Host.clampedStart (rows 32768) (rows 1) h.1 start 0 ≤ (i 0).val
      ∧ (i 0).val < Host.clampedStart (rows 32768) (rows 1) h.1 start 0 + 1 := hin 0
    rw [c0] at a0
    rw [if_pos (by omega)]
    refine congrArg u (funext fun a => Fin.ext ?_)
    match a with
    | ⟨0, _⟩ =>
      show (i 0).val - Host.clampedStart (rows 32768) (rows 1) h.1 start 0 = 0
      rw [c0]; omega
    | ⟨1, _⟩ =>
      show (i 1).val - Host.clampedStart (rows 32768) (rows 1) h.1 start 1 = (i 1).val
      rw [c1]; omega
  · rename_i hin
    rw [if_neg]
    intro hi
    refine hin fun a => ?_
    match a with
    | ⟨0, _⟩ =>
      show Host.clampedStart (rows 32768) (rows 1) h.1 start 0 ≤ (i 0).val
        ∧ (i 0).val < Host.clampedStart (rows 32768) (rows 1) h.1 start 0 + 1
      rw [c0]; omega
    | ⟨1, _⟩ =>
      show Host.clampedStart (rows 32768) (rows 1) h.1 start 1 ≤ (i 1).val
        ∧ (i 1).val < Host.clampedStart (rows 32768) (rows 1) h.1 start 1 + 512
      have : (i 1).val < 512 := (i 1).isLt
      rw [c1]; omega

/-! ## The loop -/

open Cert.ReferenceIdeal Cert.ReferenceIdeal.Gen Cert.ReferenceIdeal.Value
open Idealize.ShloMosaic.StableHlo Idealize.ShloMosaic.Tactic

/-- The place of column `y` in a single row. -/
def entry (y : Fin 512) : S512.Idx := fun | 0 => y

/-- What a valuation holds after `k` trips, where the argument is `X`. -/
structure After (X : (rows 32768).Idx → EReal) (k : ℕ) (V : Valuation τ sig (Elt Ideal)) : Prop where
  arg : V (Proc.devRef .tc main_v2_0) = X
  ctr : V (Proc.devRef .tc main_v2_1) = fun _ => BitVec.ofNat 32 k
  acc : ∀ j : S512.Idx, V (Proc.devRef .tc main_v2_2) j = run X (j 0) 0 k
  out : ∀ i : (rows 32768).Idx, (i 0).val < k → V (Proc.devRef .tc main_v2_3) i = prefixOf X i

/-- One more factor. -/
theorem run_succ (X : (rows 32768).Idx → EReal) (y : Fin 512) (k : Fin 32768) :
    run X y 0 k.val * X (Shape.pair (d := ![32768, 512]) k y) = run X y 0 (k.val + 1) := by
  rw [run_zero, run_zero, Finset.prod_range_succ]
  exact congrArg _ (col_lt X y k.isLt).symm

section Trip

variable {X : (rows 32768).Idx → EReal} {k : Fin 32768} {V : Valuation τ sig (Elt Ideal)} (h : After X k.val V)
include h

theorem After.start_row : ((![V (Proc.devRef .tc main_v2_1), constantI S_ 32 0#32] : Fin 2 → (⟨S_, .i32⟩ : BufTy).Contents (Elt Ideal))
    0 (Shape.Idx.first h_S_)).toInt = (k.val : Int) := by
  have hk := k.isLt
  show (V (Proc.devRef .tc main_v2_1) (Shape.Idx.first h_S_)).toInt = _
  rw [h.ctr]
  exact toInt_ofNat_of_lt (by omega)

omit h in
theorem start_col : ((![V (Proc.devRef .tc main_v2_1), constantI S_ 32 0#32] : Fin 2 → (⟨S_, .i32⟩ : BufTy).Contents (Elt Ideal))
    1 (Shape.Idx.first h_S_)).toInt = ((0 : ℕ) : Int) := rfl

/-- The running product after the trip. -/
theorem After.acc_step (j : S512.Idx) : res_main_while0b_v4 V j = run X (j 0) 0 (k.val + 1) := by
  unfold res_main_while0b_v4
  rw [h.arg]
  refine (congrArg₂ (fun a b : EReal => a * b) (h.acc j) ?_).trans (run_succ X (j 0) k)
  refine (shapeCast_apply _ _ j (Shape.pair (d := ![1, 512]) ⟨0, Nat.one_pos⟩ (j 0)) ?_).trans
    (cut_row X _ _ k h.start_row start_col (j 0))
  rw [Shape.rowMajor_val_two, Shape.rowMajor_val_one]
  show 0 * 512 + (j 0).val = (j 0).val
  omega

/-- One trip takes what holds after `k` to what holds after `k + 1`. -/
theorem After.step : After X (k.val + 1) (STEP V) where
  arg := (STEP_main_v2_0 V).trans h.arg
  ctr := by
    rw [STEP_main_v2_1]; unfold step_main_v2_1
    rw [h.ctr]
    funext _
    show BitVec.ofNat 32 k.val + 1#32 = _
    rw [BitVec.ofNat_add]
  acc j := by
    rw [STEP_main_v2_2]; unfold step_main_v2_2
    exact h.acc_step j
  out i hi := by
    rw [STEP_main_v2_3]; unfold step_main_v2_3
    refine (put_row _ _ _ _ k h.start_row start_col i).trans ?_
    split
    · rename_i e
      refine (broadcastInDim_apply _ _ _ _ (entry (i 1)) ?_).trans ((h.acc_step _).trans ?_)
      · intro a
        match a with
        | ⟨0, _⟩ => rfl
      · unfold prefixOf; rw [e]; rfl
    · exact h.out i (by omega)

end Trip

variable (m : (ℓ : Loc nD τ sig) → Buf (Elt Ideal) ℓ)

theorem one_narrow : (Ideal.ofBits .bf16 0x3F80#16 : EReal) = 1 := by
  simp [Ideal.ofBits, Ideal.ieee, -EReal.coe_mul]; norm_num

/-- Before the first trip: the counter at zero and the running product one. -/
theorem after_none (c : Dev nD) : After (m (c.tc.loc main_arg0)) 0 (entryContents preI m c) where
  arg := by
    simp only [entryContents, StableHlo.afterL_cons, StableHlo.afterL_nil]
    after_reads_simp
    rfl
  ctr := ctr_entry m c
  acc j := by
    have e : entryContents preI m c (Proc.devRef .tc main_v2_2) j = Ideal.ofBits .bf16 0x3F80#16 := by
      simp only [entryContents, StableHlo.afterL_cons, StableHlo.afterL_nil]
      after_reads_simp
      rfl
    refine e.trans (one_narrow.trans ?_)
    exact (run_zero (n := 32768) (m (c.tc.loc main_arg0)) (j 0) 0).symm
  out i hi := absurd hi (Nat.not_lt_zero _)

theorem after_trips (c : Dev nD) : ∀ k, k ≤ 32768 → After (m (c.tc.loc main_arg0)) k (STEP^[k] (entryContents preI m c))
  | 0, _ => after_none m c
  | k + 1, hk => by
    rw [Function.iterate_succ_apply']
    exact After.step (k := ⟨k, hk⟩) (after_trips c k (Nat.le_of_succ_le hk))

/-- After all trips the result is the products of all rows up to each. -/
theorem result_prefix (c : Dev nD) :
    (STEP^[32768] (entryContents preI m c)) (Proc.devRef .tc main_v2_3) = prefixOf (m (c.tc.loc main_arg0)) :=
  funext fun i => (after_trips m c 32768 (Nat.le_refl _)).out i (i 0).isLt

end Cert.Cumprod

end
-- ==== Proof.Algebraic.lean ====
/-
The kernel and the reference leave the same result over exact numbers: each device holds its block of the products of all rows up
to each.
-/
module

public import proofs.«01_k».proof.Proof.Frames
public import proofs.«01_k».proof.Proof.Values
public import proofs.«01_k».proof.Proof.RefValue

@[expose] public section

set_option maxRecDepth 16384

noncomputable section

namespace Cert.Cumprod

open Idealize.ShloMosaic Idealize.ShloMosaic.TcCoe
open Idealize.SL.Sem

/-- A column of device `c`'s block is the stretch of the whole array's column that starts at the device's first row. -/
theorem col_block (X : (rows 32768).Idx → EReal) (h) (c : Fin 32) (y : Fin 512) (k : ℕ) (hk : k < 1024) :
    col (n := 1024) (Layout.block (rows 1024) (rows 32768) 0 32 c X h) y k = col X y (c.val * 1024 + k) := by
  have hc := c.isLt
  have hK : c.val * 1024 + k < 32768 := by omega
  refine (col_lt (n := 1024) _ y hk).trans ((Layout.block_apply ..).trans (.trans ?_ (col_lt X y hK).symm))
  obtain ⟨e0, e1⟩ := Layout.idx_rows_val h c (Shape.pair (d := ![1024, 512]) ⟨k, hk⟩ y)
  refine congrArg X (funext fun a => Fin.ext ?_)
  match a with
  | ⟨0, _⟩ => exact e0
  | ⟨1, _⟩ => exact e1

/-- Device `c`'s block of the products up to each row. -/
theorem prefix_block (X : (rows 32768).Idx → EReal) (h) (c : Fin 32) (i : (rows 1024).Idx) :
    Layout.block (rows 1024) (rows 32768) 0 32 c (prefixOf X) h i = run X (i 1) 0 (c.val * 1024 + ((i 0).val + 1)) := by
  obtain ⟨e0, e1⟩ := Layout.idx_rows_val h c i
  refine (Layout.block_apply ..).trans ?_
  unfold prefixOf
  have e1' : (h.idx c i) 1 = i 1 := Fin.ext e1
  rw [e0, e1', Nat.add_assoc]
  rfl

/-- Started on the blocks of one array, the kernel ends with the blocks of the reference's result. -/
theorem algebraic : Cert.algebraic_KernelIdeal_ReferenceIdeal := by
  intro m g m' g' _ hm
  refine ⟨prefixOf (m' ((0 : Dev Cert.ReferenceIdeal.nD).tc.loc Cert.ReferenceIdeal.main_arg0)),
    (θ_run _ _ _).mono (fun r h c => ⟨?_, arg_kept m g r h.1 c⟩) (run_main m g),
    (θ_run _ _ _).mono (fun r h => ⟨(h 0).1.trans (result_prefix m' 0), (h 0).2⟩) (Cert.ReferenceIdeal.Value.run m' g')⟩
  refine ((h.1 c (1 : Fin 2)).trans (finalA_out m g c)).trans (funext fun i => ?_)
  refine (outAt_prod m g (m' ((0 : Dev Cert.ReferenceIdeal.nD).tc.loc Cert.ReferenceIdeal.main_arg0)) (fun d y k hk => ?_) c i).trans
    (prefix_block _ _ c i).symm
  rw [xAt_eq]
  exact (congrArg (fun f => col (n := 1024) f y k) (hm d)).trans (col_block _ _ d y k hk)

end Cert.Cumprod

end
-- ==== Proof.lean ====
/- The whole claim, put together from its parts: the frames are in Proof/Frames.lean, the equality with the reference
   over exact numbers in Proof/Algebraic.lean; no operation was rewritten for the exact reading, so `preserves` says nothing more. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

/-- Everything that is claimed. -/
theorem claim : Cert.Claim := ⟨Cert.Kernel.Gen.facts, Cert.KernelIdeal.Gen.facts, Cert.ReferenceIdeal.Gen.facts,
  Cert.Cumprod.frame_kernel, Cert.Cumprod.frame_ideal, Cert.Cumprod.frame_reference, trivial,
  Cert.Cumprod.algebraic⟩

end Cert.Proof

end
